-- ==== Defs.lean ====
def Pre_Kernel (m : (ℓ : Loc Cert.Kernel.nD Cert.Kernel.τ Cert.Kernel.sig) → Buf (Elt Bits) ℓ) : Prop :=
  True

def Pre_Kernel_decided [hPre_decided : Cert.Pre_decided.Facts] (m : (ℓ : Loc Cert.Kernel.nD Cert.Kernel.τ Cert.Kernel.sig) → Buf (Elt Bits) ℓ) : Prop :=
  ∀ c : Dev Cert.Kernel.nD,
    (Cert.Pre_decided.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_decided : Cert.Pre_decided.Facts] (m : (ℓ : Loc Cert.KernelIdeal.nD Cert.KernelIdeal.τ Cert.KernelIdeal.sig) → Buf (Elt Ideal) ℓ) : Prop :=
  ∀ c : Dev Cert.KernelIdeal.nD,
    (Cert.Pre_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decided [hPre_decided : Cert.Pre_decided.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decided.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Kernel_pre_decided [hKernel : Cert.Kernel.Facts] [hPre_decided : Cert.Pre_decided.Facts] : Prop :=
  ∀ (m : (ℓ : Loc Cert.Kernel.nD Cert.Kernel.τ Cert.Kernel.sig) → Buf (Elt Bits) ℓ) (g : Dev Cert.Kernel.nD → PrngReg), Pre_Kernel_decided m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_decided : Cert.Pre_decided.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_decided [hReferenceIdeal : Cert.ReferenceIdeal.Facts] [hPre_decided : Cert.Pre_decided.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decided m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_decided : Cert.Pre_decided.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v73) = v3 c
          ∧ r.2.mem ((c.tc : Thread Cert.ReferenceIdeal.nD Cert.ReferenceIdeal.τ).loc Cert.ReferenceIdeal.main_v72) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_decided : Cert.Pre_decided.Facts),
    quiescent_Kernel (hKernel := hKernel)
    ∧ quiescent_Kernel_pre_decided (hKernel := hKernel) (hPre_decided := hPre_decided)
    ∧ quiescent_KernelIdeal (hKernelIdeal := hKernelIdeal) (hPre_decided := hPre_decided)
    ∧ quiescent_ReferenceIdeal (hReferenceIdeal := hReferenceIdeal)
    ∧ quiescent_ReferenceIdeal_pre_decided (hReferenceIdeal := hReferenceIdeal) (hPre_decided := hPre_decided)
    ∧ preserves_Kernel_KernelIdeal
    ∧ algebraic_KernelIdeal_ReferenceIdeal (hKernelIdeal := hKernelIdeal) (hReferenceIdeal := hReferenceIdeal) (hPre_decided := hPre_decided)
-- ==== Pre_decided.lean ====
abbrev S1x2048x1024 : Shape := ⟨3, ![1, 2048, 1024]⟩
abbrev S1024x64x16 : Shape := ⟨3, ![1024, 64, 16]⟩
abbrev S64x1024x16 : Shape := ⟨3, ![64, 1024, 16]⟩
abbrev S64x16 : Shape := ⟨2, ![64, 16]⟩
abbrev S_ : Shape := ⟨0, ![]⟩
abbrev S1x64x16 : Shape := ⟨3, ![1, 64, 16]⟩
abbrev S2048x1024 : Shape := ⟨2, ![2048, 1024]⟩
abbrev S2048x64x16 : Shape := ⟨3, ![2048, 64, 16]⟩
abbrev S2048x64 : Shape := ⟨2, ![2048, 64]⟩
abbrev S2048x5 : Shape := ⟨2, ![2048, 5]⟩
abbrev S2048x4 : Shape := ⟨2, ![2048, 4]⟩
abbrev S2048x4x1 : Shape := ⟨3, ![2048, 4, 1]⟩
abbrev S2048x4x1024x16 : Shape := ⟨4, ![2048, 4, 1024, 16]⟩
abbrev S2048x4x1x1 : Shape := ⟨4, ![2048, 4, 1, 1]⟩
abbrev S2048x4x4 : Shape := ⟨3, ![2048, 4, 4]⟩
abbrev S4x4 : Shape := ⟨2, ![4, 4]⟩
abbrev S1x4x4 : Shape := ⟨3, ![1, 4, 4]⟩
abbrev S2048x3 : Shape := ⟨2, ![2048, 3]⟩
abbrev S2048x2 : Shape := ⟨2, ![2048, 2]⟩

class Facts : Prop where
  reducesTo_S1024x64x16_S64x16_d0 : S1024x64x16.ReducesTo [0] S64x16
  h_S_ : 0 < S_.numel
  bcast_S64x16_S1x64x16_1_2 : S64x16.BroadcastsInDim S1x64x16 (![1, 2] : Fin 2 → Fin S1x64x16.rank)
  bcast_S_S1x64x16 : S_.BroadcastsInDim S1x64x16 (![] : Fin 0 → Fin S1x64x16.rank)
  bcast_S1x64x16_S1024x64x16_0_1_2 : S1x64x16.BroadcastsInDim S1024x64x16 (![0, 1, 2] : Fin 3 → Fin S1024x64x16.rank)
  shapeCasts_S1x2048x1024_S2048x1024 : S1x2048x1024.ShapeCasts S2048x1024
  reducesTo_S2048x64x16_S2048x64_d2 : S2048x64x16.ReducesTo [2] S2048x64
  sliceFits_S2048x64_S2048x5 : S2048x64.Slices (fun _ => 0) S2048x5
  sliceFits_S2048x64_S2048x4 : S2048x64.Slices (fun _ => 0) S2048x4
  transposes_S1024x64x16_S64x1024x16_1_0_2 : S1024x64x16.Transposes [1, 0, 2] S64x1024x16
  bcast_S2048x4_S2048x4x1_0_1 : S2048x4.BroadcastsInDim S2048x4x1 (![0, 1] : Fin 2 → Fin S2048x4x1.rank)
  reducesTo_S2048x4x1024x16_S2048x4_d2_3 : S2048x4x1024x16.ReducesTo [2, 3] S2048x4
  bcast_S2048x4_S2048x4x1x1_0_1 : S2048x4.BroadcastsInDim S2048x4x1x1 (![0, 1] : Fin 2 → Fin S2048x4x1x1.rank)
  bcast_S_S2048x4x1x1 : S_.BroadcastsInDim S2048x4x1x1 (![] : Fin 0 → Fin S2048x4x1x1.rank)
  bcast_S2048x4x1x1_S2048x4x1024x16_0_1_2_3 : S2048x4x1x1.BroadcastsInDim S2048x4x1024x16 (![0, 1, 2, 3] : Fin 4 → Fin S2048x4x1024x16.rank)
  bcast_S_S4x4 : S_.BroadcastsInDim S4x4 (![] : Fin 0 → Fin S4x4.rank)
  bcast_S4x4_S1x4x4_1_2 : S4x4.BroadcastsInDim S1x4x4 (![1, 2] : Fin 2 → Fin S1x4x4.rank)
  bcast_S_S1x4x4 : S_.BroadcastsInDim S1x4x4 (![] : Fin 0 → Fin S1x4x4.rank)
  bcast_S1x4x4_S2048x4x4_0_1_2 : S1x4x4.BroadcastsInDim S2048x4x4 (![0, 1, 2] : Fin 3 → Fin S2048x4x4.rank)
  sliceFits_S2048x4_S2048x3 : S2048x4.Slices (fun _ => 0) S2048x3
  bcast_S_S1x2048x1024 : S_.BroadcastsInDim S1x2048x1024 (![] : Fin 0 → Fin S1x2048x1024.rank)
  reducesTo_S1x2048x1024_S_d0_1_2 : S1x2048x1024.ReducesTo [0, 1, 2] S_
  slices_S2048x5_S2048x4_0_0 : S2048x5.Slices ![0, 0] S2048x4
  slices_S2048x5_S2048x4_0_1 : S2048x5.Slices ![0, 1] S2048x4
  reducesTo_S2048x4_S_d0_1 : S2048x4.ReducesTo [0, 1] S_
  slices_S2048x3_S2048x2_0_0 : S2048x3.Slices ![0, 0] S2048x2
  slices_S2048x3_S2048x2_0_1 : S2048x3.Slices ![0, 1] S2048x2
  reducesTo_S2048x2_S_d0_1 : S2048x2.ReducesTo [0, 1] S_
  dot_S2048x1024_S1024x64x16_S2048x64x16_1_0_0_12_n_n_wf : DotDims.WF S2048x1024 S1024x64x16 S2048x64x16 [1] [0] [0] [1, 2] [] []
  gather_S64x1024x16_S2048x4x1_S2048x4x1024x16_23_0_n_n_0_2_1102416_wf : GatherDims.WF S64x1024x16 S2048x4x1 S2048x4x1024x16 [2, 3] [0] [] [0] [] 2 ![1, 1024, 16]
  dot_S2048x4x1024x16_S2048x4x1024x16_S2048x4x4_32_32_1_1_0_0_wf : DotDims.WF S2048x4x1024x16 S2048x4x1024x16 S2048x4x4 [3, 2] [3, 2] [1] [1] [0] [0]
  dot_S2048x4_S2048x4x4_S2048x4_1_1_n_2_0_0_wf : DotDims.WF S2048x4 S2048x4x4 S2048x4 [1] [1] [] [2] [0] [0]

variable [Facts]

def dot_S2048x1024_S1024x64x16_S2048x64x16_1_0_0_12_n_n : DotDims S2048x1024 S1024x64x16 S2048x64x16 where
  lhsContracting := [1]
  rhsContracting := [0]
  lhsNonContracting := [0]
  rhsNonContracting := [1, 2]
  lhsBatch := []
  rhsBatch := []
  wf := dot_S2048x1024_S1024x64x16_S2048x64x16_1_0_0_12_n_n_wf
def gather_S64x1024x16_S2048x4x1_S2048x4x1024x16_23_0_n_n_0_2_1102416 : GatherDims S64x1024x16 S2048x4x1 S2048x4x1024x16 where
  offsetDims := [2, 3]
  collapsedSliceDims := [0]
  operandBatchingDims := []
  startIndicesBatchingDims := []
  startIndexMap := [0]
  indexVectorDim := 2
  sliceSizes := ![1, 1024, 16]
  wf := gather_S64x1024x16_S2048x4x1_S2048x4x1024x16_23_0_n_n_0_2_1102416_wf
def dot_S2048x4x1024x16_S2048x4x1024x16_S2048x4x4_32_32_1_1_0_0 : DotDims S2048x4x1024x16 S2048x4x1024x16 S2048x4x4 where
  lhsContracting := [3, 2]
  rhsContracting := [3, 2]
  lhsNonContracting := [1]
  rhsNonContracting := [1]
  lhsBatch := [0]
  rhsBatch := [0]
  wf := dot_S2048x4x1024x16_S2048x4x1024x16_S2048x4x4_32_32_1_1_0_0_wf
def dot_S2048x4_S2048x4x4_S2048x4_1_1_n_2_0_0 : DotDims S2048x4 S2048x4x4 S2048x4 where
  lhsContracting := [1]
  rhsContracting := [1]
  lhsNonContracting := []
  rhsNonContracting := [2]
  lhsBatch := [0]
  rhsBatch := [0]
  wf := dot_S2048x4_S2048x4x4_S2048x4_1_1_n_2_0_0_wf
def fn_norm {F : FTy → Type} [FloatOps F] (arg0 : FVec F S1024x64x16 .f32) : FVec F S1x64x16 .f32 :=
  let v0 : FVec F S1024x64x16 .f32 := mulf arg0 arg0
  let cst : FVec F S_ .f32 := constant S_ .f32 0x00000000#32
  let v1 : FVec F S64x16 .f32 := (fun x v => Host.reduceAdd x v reducesTo_S1024x64x16_S64x16_d0 h_S_) v0 cst
  let v2 : FVec F S1x64x16 .f32 := broadcastInDim S1x64x16 ![1, 2] bcast_S64x16_S1x64x16_1_2 v1
  let v3 : FVec F S1x64x16 .f32 := Host.sqrt v2
  v3

def fn_take {F : FTy → Type} [FloatOps F] (arg0 : FVec F S64x1024x16 .f32) (arg1 : IVec S2048x4 32) : FVec F S2048x4x1024x16 .f32 :=
  let v0 : IVec S2048x4x1 32 := broadcastInDim S2048x4x1 ![0, 1] bcast_S2048x4_S2048x4x1_0_1 arg1
  let v1 : FVec F S2048x4x1024x16 .f32 := (fun x i => Host.gather gather_S64x1024x16_S2048x4x1_S2048x4x1024x16_23_0_n_n_0_2_1102416 x i) arg0 v0
  v1

def fn_part2 {F : FTy → Type} [FloatOps F] (main_values : FVec F S2048x5 .f32) (main_values_6 : FVec F S2048x3 .f32) (main_v35 : FVec F S1x2048x1024 .f32) : IVec S_ 1 :=
  let main_cst_8 : FVec F S_ .f32 := constant S_ .f32 0x7F800000#32
  let main_v36 : FVec F S1x2048x1024 .f32 := broadcastInDim S1x2048x1024 ![] bcast_S_S1x2048x1024 main_cst_8
  let main_v37 : IVec S1x2048x1024 1 := cmpf .olt main_v35 main_v36
  let main_c_9 : IVec S_ 1 := constantI S_ 1 1#1
  let main_v38 : IVec S_ 1 := (fun x v => Host.reduce IntOp.andi x v reducesTo_S1x2048x1024_S_d0_1_2 h_S_) main_v37 main_c_9
  let main_v39 : FVec F S2048x4 .f32 := (extractStridedSlice S2048x4 ![0, 0] · slices_S2048x5_S2048x4_0_0) main_values
  let main_v40 : FVec F S2048x4 .f32 := (extractStridedSlice S2048x4 ![0, 1] · slices_S2048x5_S2048x4_0_1) main_values
  let main_v41 : IVec S2048x4 1 := cmpf .ogt main_v39 main_v40
  let main_c_10 : IVec S_ 1 := constantI S_ 1 1#1
  let main_v42 : IVec S_ 1 := (fun x v => Host.reduce IntOp.andi x v reducesTo_S2048x4_S_d0_1 h_S_) main_v41 main_c_10
  let main_v43 : IVec S_ 1 := andi main_v38 main_v42
  let main_v44 : FVec F S2048x2 .f32 := (extractStridedSlice S2048x2 ![0, 0] · slices_S2048x3_S2048x2_0_0) main_values_6
  let main_v45 : FVec F S2048x2 .f32 := (extractStridedSlice S2048x2 ![0, 1] · slices_S2048x3_S2048x2_0_1) main_values_6
  let main_v46 : IVec S2048x2 1 := cmpf .ogt main_v44 main_v45
  let main_c_11 : IVec S_ 1 := constantI S_ 1 1#1
  let main_v47 : IVec S_ 1 := (fun x v => Host.reduce IntOp.andi x v reducesTo_S2048x2_S_d0_1 h_S_) main_v46 main_c_11
  let main_v48 : IVec S_ 1 := andi main_v43 main_v47
  main_v48

def fn_part1 {F : FTy → Type} [FloatOps F] (main_arg0 : FVec F S1x2048x1024 .f32) (main_values : FVec F S2048x5 .f32) (main_values_1 : FVec F S2048x4 .f32) (main_v10 : FVec F S2048x4x1024x16 .f32) (main_v14 : FVec F S2048x4x1x1 .f32) (main_v15 : FVec F S2048x4x1x1 .f32) : IVec S_ 1 :=
  let main_v16 : FVec F S2048x4x1x1 .f32 := maximumf main_v14 main_v15
  let main_v17 : FVec F S2048x4x1024x16 .f32 := broadcastInDim S2048x4x1024x16 ![0, 1, 2, 3] bcast_S2048x4x1x1_S2048x4x1024x16_0_1_2_3 main_v16
  let main_v18 : FVec F S2048x4x1024x16 .f32 := Host.divf main_v10 main_v17
  let main_v19 : FVec F S2048x4x4 .f32 := (fun l r => Host.dotGeneral dot_S2048x4x1024x16_S2048x4x1024x16_S2048x4x4_32_32_1_1_0_0 none l r) main_v18 main_v18
  let main_v20 : FVec F S2048x4 .f32 := Host.sqrt main_values_1
  let main_v21 : IVec S4x4 32 := iotaInDim S4x4 32 0
  let main_v22 : IVec S4x4 32 := iotaInDim S4x4 32 1
  let main_c : IVec S_ 32 := constantI S_ 32 0#32
  let main_v23 : IVec S4x4 32 := broadcastInDim S4x4 ![] bcast_S_S4x4 main_c
  let main_v24 : IVec S4x4 32 := addi main_v21 main_v23
  let main_v25 : IVec S4x4 1 := cmpi .eq main_v24 main_v22
  let main_v26 : FVec F S4x4 .f32 := uitofp .f32 main_v25
  let main_v27 : FVec F S1x4x4 .f32 := broadcastInDim S1x4x4 ![1, 2] bcast_S4x4_S1x4x4_1_2 main_v26
  let main_cst_5 : FVec F S_ .f32 := constant S_ .f32 0x3F800000#32
  let main_v28 : FVec F S1x4x4 .f32 := broadcastInDim S1x4x4 ![] bcast_S_S1x4x4 main_cst_5
  let main_v29 : FVec F S1x4x4 .f32 := subf main_v28 main_v27
  let main_v30 : FVec F S2048x4x4 .f32 := broadcastInDim S2048x4x4 ![0, 1, 2] bcast_S1x4x4_S2048x4x4_0_1_2 main_v29
  let main_v31 : FVec F S2048x4x4 .f32 := mulf main_v19 main_v30
  let main_v32 : FVec F S2048x4 .f32 := (fun l r => Host.dotGeneral dot_S2048x4_S2048x4x4_S2048x4_1_1_n_2_0_0 none l r) main_v20 main_v31
  let main_v33 : FVec F S2048x4 .f32 := mulf main_v32 main_v20
  let main_v34 : FVec F S2048x4 .f32 := subf main_values_1 main_v33
  let main_values_6 : FVec F S2048x3 .f32 := (fun x => (Host.topK S2048x3 1 (FloatOps.cmpfTotal .gt) x sliceFits_S2048x4_S2048x3).1) main_v34
  let main_indices_7 : IVec S2048x3 32 := (fun x => (Host.topK S2048x3 1 (FloatOps.cmpfTotal .gt) x sliceFits_S2048x4_S2048x3).2) main_v34
  let main_v35 : FVec F S1x2048x1024 .f32 := Host.absf main_arg0
  fn_part2 (F := F) main_values main_values_6 main_v35

def fn {F : FTy → Type} [FloatOps F] (main_arg0 : FVec F S1x2048x1024 .f32) (main_arg1 : FVec F S1024x64x16 .f32) (main_arg2 : FVec F S64x1024x16 .f32) (main_arg3 : FVec F S64x16 .f32) : IVec S_ 1 :=
  let main_v0 : FVec F S1x64x16 .f32 := fn_norm (F := F) main_arg1
  let main_cst : FVec F S_ .f32 := constant S_ .f32 0x2B8CBCCC#32
  let main_v1 : FVec F S1x64x16 .f32 := broadcastInDim S1x64x16 ![] bcast_S_S1x64x16 main_cst
  let main_v2 : FVec F S1x64x16 .f32 := maximumf main_v0 main_v1
  let main_v3 : FVec F S1024x64x16 .f32 := broadcastInDim S1024x64x16 ![0, 1, 2] bcast_S1x64x16_S1024x64x16_0_1_2 main_v2
  let main_v4 : FVec F S1024x64x16 .f32 := Host.divf main_arg1 main_v3
  let main_v5 : FVec F S2048x1024 .f32 := shapeCast S2048x1024 main_arg0 shapeCasts_S1x2048x1024_S2048x1024
  let main_v6 : FVec F S2048x64x16 .f32 := (fun l r => Host.dotGeneral dot_S2048x1024_S1024x64x16_S2048x64x16_1_0_0_12_n_n none l r) main_v5 main_v4
  let main_v7 : FVec F S2048x64x16 .f32 := mulf main_v6 main_v6
  let main_cst_0 : FVec F S_ .f32 := constant S_ .f32 0x00000000#32
  let main_v8 : FVec F S2048x64 .f32 := (fun x v => Host.reduceAdd x v reducesTo_S2048x64x16_S2048x64_d2 h_S_) main_v7 main_cst_0
  let main_values : FVec F S2048x5 .f32 := (fun x => (Host.topK S2048x5 1 (FloatOps.cmpfTotal .gt) x sliceFits_S2048x64_S2048x5).1) main_v8
  let main_indices : IVec S2048x5 32 := (fun x => (Host.topK S2048x5 1 (FloatOps.cmpfTotal .gt) x sliceFits_S2048x64_S2048x5).2) main_v8
  let main_values_1 : FVec F S2048x4 .f32 := (fun x => (Host.topK S2048x4 1 (FloatOps.cmpfTotal .gt) x sliceFits_S2048x64_S2048x4).1) main_v8
  let main_indices_2 : IVec S2048x4 32 := (fun x => (Host.topK S2048x4 1 (FloatOps.cmpfTotal .gt) x sliceFits_S2048x64_S2048x4).2) main_v8
  let main_v9 : FVec F S64x1024x16 .f32 := (transpose S64x1024x16 [1, 0, 2] · transposes_S1024x64x16_S64x1024x16_1_0_2) main_v4
  let main_v10 : FVec F S2048x4x1024x16 .f32 := fn_take (F := F) main_v9 main_indices_2
  let main_v11 : FVec F S2048x4x1024x16 .f32 := mulf main_v10 main_v10
  let main_cst_3 : FVec F S_ .f32 := constant S_ .f32 0x00000000#32
  let main_v12 : FVec F S2048x4 .f32 := (fun x v => Host.reduceAdd x v reducesTo_S2048x4x1024x16_S2048x4_d2_3 h_S_) main_v11 main_cst_3
  let main_v13 : FVec F S2048x4x1x1 .f32 := broadcastInDim S2048x4x1x1 ![0, 1] bcast_S2048x4_S2048x4x1x1_0_1 main_v12
  let main_v14 : FVec F S2048x4x1x1 .f32 := Host.sqrt main_v13
  let main_cst_4 : FVec F S_ .f32 := constant S_ .f32 0x2B8CBCCC#32
  let main_v15 : FVec F S2048x4x1x1 .f32 := broadcastInDim S2048x4x1x1 ![] bcast_S_S2048x4x1x1 main_cst_4
  fn_part1 (F := F) main_arg0 main_values main_values_1 main_v10 main_v14 main_v15
-- ==== Kernel.lean ====
abbrev S1x2048x1024 : Shape := ⟨3, ![1, 2048, 1024]⟩
abbrev S1024x64x16 : Shape := ⟨3, ![1024, 64, 16]⟩
abbrev S64x1024x16 : Shape := ⟨3, ![64, 1024, 16]⟩
abbrev S64x16 : Shape := ⟨2, ![64, 16]⟩
abbrev S2048x1024 : Shape := ⟨2, ![2048, 1024]⟩
abbrev S_ : Shape := ⟨0, ![]⟩
abbrev S1x64x16 : Shape := ⟨3, ![1, 64, 16]⟩
abbrev S1024x16x64 : Shape := ⟨3, ![1024, 16, 64]⟩
abbrev S1024x1024 : Shape := ⟨2, ![1024, 1024]⟩
abbrev S64x16x1024 : Shape := ⟨3, ![64, 16, 1024]⟩
abbrev S16x64x1024 : Shape := ⟨3, ![16, 64, 1024]⟩
abbrev S16x64 : Shape := ⟨2, ![16, 64]⟩
abbrev S1024x1 : Shape := ⟨2, ![1024, 1]⟩
abbrev S1x1 : Shape := ⟨2, ![1, 1]⟩
abbrev S512x1024 : Shape := ⟨2, ![512, 1024]⟩
abbrev S64x64 : Shape := ⟨2, ![64, 64]⟩
abbrev S64x16x1 : Shape := ⟨3, ![64, 16, 1]⟩
abbrev S64x1 : Shape := ⟨2, ![64, 1]⟩
abbrev S64x1x1 : Shape := ⟨3, ![64, 1, 1]⟩
abbrev S64x1x1024 : Shape := ⟨3, ![64, 1, 1024]⟩
abbrev S64x1024 : Shape := ⟨2, ![64, 1024]⟩
abbrev S1024 : Shape := ⟨1, ![1024]⟩
abbrev S512x128 : Shape := ⟨2, ![512, 128]⟩
abbrev S512x64 : Shape := ⟨2, ![512, 64]⟩
abbrev S512 : Shape := ⟨1, ![512]⟩
abbrev S512x1 : Shape := ⟨2, ![512, 1]⟩
abbrev S64 : Shape := ⟨1, ![64]⟩
abbrev S1x64 : Shape := ⟨2, ![1, 64]⟩
abbrev S1x512x64 : Shape := ⟨3, ![1, 512, 64]⟩
abbrev S1 : Shape := ⟨1, ![1]⟩
abbrev S1x1x1 : Shape := ⟨3, ![1, 1, 1]⟩

abbrev nBuf : Space → Nat
  | .hbm => 34
  | .vmem => 12
  | .smem => 0
  | _ => 0

abbrev bufTy : (tb : Table) → Fin (tcTables nBuf tb) → BufTy
  | .hbm, ⟨0, _⟩ => ⟨S1x2048x1024, .f32⟩
  | .hbm, ⟨1, _⟩ => ⟨S1024x64x16, .f32⟩
  | .hbm, ⟨2, _⟩ => ⟨S64x1024x16, .f32⟩
  | .hbm, ⟨3, _⟩ => ⟨S64x16, .f32⟩
  | .hbm, ⟨4, _⟩ => ⟨S2048x1024, .f32⟩
  | .hbm, ⟨5, _⟩ => ⟨S1024x64x16, .f32⟩
  | .hbm, ⟨6, _⟩ => ⟨S_, .f32⟩
  | .hbm, ⟨7, _⟩ => ⟨S64x16, .f32⟩
  | .hbm, ⟨8, _⟩ => ⟨S1x64x16, .f32⟩
  | .hbm, ⟨9, _⟩ => ⟨S1x64x16, .f32⟩
  | .hbm, ⟨10, _⟩ => ⟨S_, .f32⟩
  | .hbm, ⟨11, _⟩ => ⟨S1x64x16, .f32⟩
  | .hbm, ⟨12, _⟩ => ⟨S1x64x16, .f32⟩
  | .hbm, ⟨13, _⟩ => ⟨S1024x64x16, .f32⟩
  | .hbm, ⟨14, _⟩ => ⟨S1024x64x16, .f32⟩
  | .hbm, ⟨15, _⟩ => ⟨S1024x16x64, .f32⟩
  | .hbm, ⟨16, _⟩ => ⟨S1024x1024, .f32⟩
  | .hbm, ⟨17, _⟩ => ⟨S64x16x1024, .f32⟩
  | .hbm, ⟨18, _⟩ => ⟨S16x64x1024, .f32⟩
  | .hbm, ⟨19, _⟩ => ⟨S1024x1024, .f32⟩
  | .hbm, ⟨20, _⟩ => ⟨S16x64, .f32⟩
  | .hbm, ⟨21, _⟩ => ⟨S1024x1, .f32⟩
  | .hbm, ⟨22, _⟩ => ⟨S2048x1024, .f32⟩
  | .hbm, ⟨23, _⟩ => ⟨S1x1, .f32⟩
  | .hbm, ⟨24, _⟩ => ⟨S1x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S64x16x1024, .f32⟩
  | .local _ .vmem, ⟨4, _⟩ => ⟨S1024x1024, .f32⟩
  | .local _ .vmem, ⟨5, _⟩ => ⟨S1024x1, .f32⟩
  | .local _ .vmem, ⟨6, _⟩ => ⟨S512x1024, .f32⟩
  | .local _ .vmem, ⟨7, _⟩ => ⟨S512x1024, .f32⟩
  | .local _ .vmem, ⟨8, _⟩ => ⟨S1x1, .f32⟩
  | .local _ .vmem, ⟨9, _⟩ => ⟨S1x1, .f32⟩
  | .local _ .vmem, ⟨10, _⟩ => ⟨S64x64, .f32⟩
  | .local _ .vmem, ⟨11, _⟩ => ⟨S1024x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_call0_v0 : Ref sig .tc := ⟨.hbm, 5, rfl⟩
abbrev main_call0_call0_cst : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13_0 : Ref sig .tc := ⟨.hbm, 22, rfl⟩
abbrev main_call0_v13_1 : Ref sig .tc := ⟨.hbm, 23, rfl⟩
abbrev main_call0_v13_2 : Ref sig .tc := ⟨.hbm, 24, rfl⟩
abbrev main_call0_v14 : Ref sig .tc := ⟨.hbm, 25, rfl⟩
abbrev main_call0_cst_0 : Ref sig .tc := ⟨.hbm, 26, rfl⟩
abbrev main_v0_3 : Ref sig .tc := ⟨.hbm, 27, rfl⟩
abbrev main_call0_v16 : Ref sig .tc := ⟨.hbm, 28, rfl⟩
abbrev main_call0_cst_1 : Ref sig .tc := ⟨.hbm, 29, rfl⟩
abbrev main_v0_2 : Ref sig .tc := ⟨.hbm, 30, rfl⟩
abbrev main_v0_4 : Ref sig .tc := ⟨.hbm, 31, rfl⟩
abbrev main_v0_1 : Ref sig .tc := ⟨.hbm, 32, rfl⟩
abbrev main_v0_0 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x2048x1024 : Shape := ⟨3, ![1, 2048, 1024]⟩
abbrev S1024x64x16 : Shape := ⟨3, ![1024, 64, 16]⟩
abbrev S64x1024x16 : Shape := ⟨3, ![64, 1024, 16]⟩
abbrev S64x16 : Shape := ⟨2, ![64, 16]⟩
abbrev S_ : Shape := ⟨0, ![]⟩
abbrev S1x64x16 : Shape := ⟨3, ![1, 64, 16]⟩
abbrev S2048x1024 : Shape := ⟨2, ![2048, 1024]⟩
abbrev S2048x64x16 : Shape := ⟨3, ![2048, 64, 16]⟩
abbrev S2048x64 : Shape := ⟨2, ![2048, 64]⟩
abbrev S2048x4 : Shape := ⟨2, ![2048, 4]⟩
abbrev S2048x4x1 : Shape := ⟨3, ![2048, 4, 1]⟩
abbrev S2048x4x1024x16 : Shape := ⟨4, ![2048, 4, 1024, 16]⟩
abbrev S2048x4x1x1 : Shape := ⟨4, ![2048, 4, 1, 1]⟩
abbrev S2048x4x4 : Shape := ⟨3, ![2048, 4, 4]⟩
abbrev S4x4 : Shape := ⟨2, ![4, 4]⟩
abbrev S1x4x4 : Shape := ⟨3, ![1, 4, 4]⟩
abbrev S2048x2 : Shape := ⟨2, ![2048, 2]⟩
abbrev S2048x2x1 : Shape := ⟨3, ![2048, 2, 1]⟩
abbrev S2048x2x16 : Shape := ⟨3, ![2048, 2, 16]⟩
abbrev S64x1x16 : Shape := ⟨3, ![64, 1, 16]⟩
abbrev S2048x2x1024x16 : Shape := ⟨4, ![2048, 2, 1024, 16]⟩
abbrev S2048x2x4 : Shape := ⟨3, ![2048, 2, 4]⟩
abbrev S2048x2x2 : Shape := ⟨3, ![2048, 2, 2]⟩
abbrev S2x2 : Shape := ⟨2, ![2, 2]⟩
abbrev S1x2x2 : Shape := ⟨3, ![1, 2, 2]⟩

abbrev nBuf : Space → Nat
  | .hbm => 114
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x64x16, .f32⟩
  | .hbm, ⟨2, _⟩ => ⟨S64x1024x16, .f32⟩
  | .hbm, ⟨3, _⟩ => ⟨S64x16, .f32⟩
  | .hbm, ⟨4, _⟩ => ⟨S1024x64x16, .f32⟩
  | .hbm, ⟨5, _⟩ => ⟨S_, .f32⟩
  | .hbm, ⟨6, _⟩ => ⟨S64x16, .f32⟩
  | .hbm, ⟨7, _⟩ => ⟨S1x64x16, .f32⟩
  | .hbm, ⟨8, _⟩ => ⟨S1x64x16, .f32⟩
  | .hbm, ⟨9, _⟩ => ⟨S_, .f32⟩
  | .hbm, ⟨10, _⟩ => ⟨S1x64x16, .f32⟩
  | .hbm, ⟨11, _⟩ => ⟨S1x64x16, .f32⟩
  | .hbm, ⟨12, _⟩ => ⟨S1024x64x16, .f32⟩
  | .hbm, ⟨13, _⟩ => ⟨S1024x64x16, .f32⟩
  | .hbm, ⟨14, _⟩ => ⟨S2048x1024, .f32⟩
  | .hbm, ⟨15, _⟩ => ⟨S2048x64x16, .f32⟩
  | .hbm, ⟨16, _⟩ => ⟨S2048x64x16, .f32⟩
  | .hbm, ⟨17, _⟩ => ⟨S_, .f32⟩
  | .hbm, ⟨18, _⟩ => ⟨S2048x64, .f32⟩
  | .hbm, ⟨19, _⟩ => ⟨S2048x4, .f32⟩
  | .hbm, ⟨20, _⟩ => ⟨S2048x4, .i32⟩
  | .hbm, ⟨21, _⟩ => ⟨S64x1024x16, .f32⟩
  | .hbm, ⟨22, _⟩ => ⟨S2048x4x1, .i32⟩
  | .hbm, ⟨23, _⟩ => ⟨S2048x4x1024x16, .f32⟩
  | .hbm, ⟨24, _⟩ => ⟨S2048x4x1024x16, .f32⟩
  | .hbm, ⟨25, _⟩ => ⟨S_, .f32⟩
  | .hbm, ⟨26, _⟩ => ⟨S2048x4, .f32⟩
  | .hbm, ⟨27, _⟩ => ⟨S2048x4x1x1, .f32⟩
  | .hbm, ⟨28, _⟩ => ⟨S2048x4x1x1, .f32⟩
  | .hbm, ⟨29, _⟩ => ⟨S_, .f32⟩
  | .hbm, ⟨30, _⟩ => ⟨S2048x4x1x1, .f32⟩
  | .hbm, ⟨31, _⟩ => ⟨S2048x4x1x1, .f32⟩
  | .hbm, ⟨32, _⟩ => ⟨S2048x4x1024x16, .f32⟩
  | .hbm, ⟨33, _⟩ => ⟨S2048x4x1024x16, .f32⟩
  | .hbm, ⟨34, _⟩ => ⟨S2048x4x4, .f32⟩
  | .hbm, ⟨35, _⟩ => ⟨S2048x4, .f32⟩
  | .hbm, ⟨36, _⟩ => ⟨S4x4, .i32⟩
  | .hbm, ⟨37, _⟩ => ⟨S4x4, .i32⟩
  | .hbm, ⟨38, _⟩ => ⟨S_, .i32⟩
  | .hbm, ⟨39, _⟩ => ⟨S4x4, .i32⟩
  | .hbm, ⟨40, _⟩ => ⟨S4x4, .i32⟩
  | .hbm, ⟨41, _⟩ => ⟨S4x4, .i1⟩
  | .hbm, ⟨42, _⟩ => ⟨S4x4, .f32⟩
  | .hbm, ⟨43, _⟩ => ⟨S1x4x4, .f32⟩
  | .hbm, ⟨44, _⟩ => ⟨S_, .f32⟩
  | .hbm, ⟨45, _⟩ => ⟨S1x4x4, .f32⟩
  | .hbm, ⟨46, _⟩ => ⟨S1x4x4, .f32⟩
  | .hbm, ⟨47, _⟩ => ⟨S2048x4x4, .f32⟩
  | .hbm, ⟨48, _⟩ => ⟨S2048x4x4, .f32⟩
  | .hbm, ⟨49, _⟩ => ⟨S2048x4, .f32⟩
  | .hbm, ⟨50, _⟩ => ⟨S2048x4, .f32⟩
  | .hbm, ⟨51, _⟩ => ⟨S2048x4, .f32⟩
  | .hbm, ⟨52, _⟩ => ⟨S2048x2, .f32⟩
  | .hbm, ⟨53, _⟩ => ⟨S2048x2, .i32⟩
  | .hbm, ⟨54, _⟩ => ⟨S2048x2x1, .i32⟩
  | .hbm, ⟨55, _⟩ => ⟨S2048x2, .i32⟩
  | .hbm, ⟨56, _⟩ => ⟨S2048x2x1, .i32⟩
  | .hbm, ⟨57, _⟩ => ⟨S2048x2x16, .f32⟩
  | .hbm, ⟨58, _⟩ => ⟨S64x1024x16, .f32⟩
  | .hbm, ⟨59, _⟩ => ⟨S_, .f32⟩
  | .hbm, ⟨60, _⟩ => ⟨S64x16, .f32⟩
  | .hbm, ⟨61, _⟩ => ⟨S64x1x16, .f32⟩
  | .hbm, ⟨62, _⟩ => ⟨S64x1x16, .f32⟩
  | .hbm, ⟨63, _⟩ => ⟨S_, .f32⟩
  | .hbm, ⟨64, _⟩ => ⟨S64x1x16, .f32⟩
  | .hbm, ⟨65, _⟩ => ⟨S64x1x16, .f32⟩
  | .hbm, ⟨66, _⟩ => ⟨S64x1024x16, .f32⟩
  | .hbm, ⟨67, _⟩ => ⟨S64x1024x16, .f32⟩
  | .hbm, ⟨68, _⟩ => ⟨S64x16, .f32⟩
  | .hbm, ⟨69, _⟩ => ⟨S_, .f32⟩
  | .hbm, ⟨70, _⟩ => ⟨S64x16, .f32⟩
  | .hbm, ⟨71, _⟩ => ⟨S64x16, .f32⟩
  | .hbm, ⟨72, _⟩ => ⟨S64x1x16, .f32⟩
  | .hbm, ⟨73, _⟩ => ⟨S64x1024x16, .f32⟩
  | .hbm, ⟨74, _⟩ => ⟨S64x1024x16, .f32⟩
  | .hbm, ⟨75, _⟩ => ⟨S2048x2x1, .i32⟩
  | .hbm, ⟨76, _⟩ => ⟨S2048x2x1024x16, .f32⟩
  | .hbm, ⟨77, _⟩ => ⟨S2048x1024, .f32⟩
  | .hbm, ⟨78, _⟩ => ⟨S1x2048x1024, .f32⟩
  | .hbm, ⟨79, _⟩ => ⟨S1x2048x1024, .f32⟩
  | .hbm, ⟨80, _⟩ => ⟨S2048x2x1, .i32⟩
  | .hbm, ⟨81, _⟩ => ⟨S2048x2, .f32⟩
  | .hbm, ⟨82, _⟩ => ⟨S2048x2x1, .i32⟩
  | .hbm, ⟨83, _⟩ => ⟨S2048x2x4, .f32⟩
  | .hbm, ⟨84, _⟩ => ⟨S2048x2x1, .i32⟩
  | .hbm, ⟨85, _⟩ => ⟨S2048x2x2, .f32⟩
  | .hbm, ⟨86, _⟩ => ⟨S2048x2, .f32⟩
  | .hbm, ⟨87, _⟩ => ⟨S_, .f32⟩
  | .hbm, ⟨88, _⟩ => ⟨S_, .f32⟩
  | .hbm, ⟨89, _⟩ => ⟨S2x2, .i32⟩
  | .hbm, ⟨90, _⟩ => ⟨S2x2, .i32⟩
  | .hbm, ⟨91, _⟩ => ⟨S_, .i32⟩
  | .hbm, ⟨92, _⟩ => ⟨S2x2, .i32⟩
  | .hbm, ⟨93, _⟩ => ⟨S2x2, .i32⟩
  | .hbm, ⟨94, _⟩ => ⟨S2x2, .i1⟩
  | .hbm, ⟨95, _⟩ => ⟨S2x2, .f32⟩
  | .hbm, ⟨96, _⟩ => ⟨S1x2x2, .f32⟩
  | .hbm, ⟨97, _⟩ => ⟨S_, .f32⟩
  | .hbm, ⟨98, _⟩ => ⟨S1x2x2, .f32⟩
  | .hbm, ⟨99, _⟩ => ⟨S1x2x2, .f32⟩
  | .hbm, ⟨100, _⟩ => ⟨S2048x2x2, .f32⟩
  | .hbm, ⟨101, _⟩ => ⟨S2048x2x2, .f32⟩
  | .hbm, ⟨102, _⟩ => ⟨S2048x2, .f32⟩
  | .hbm, ⟨103, _⟩ => ⟨S2048x2, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_values : Ref sig .tc := ⟨.hbm, 19, rfl⟩
abbrev main_indices : Ref sig .tc := ⟨.hbm, 20, rfl⟩
abbrev main_v9 : Ref sig .tc := ⟨.hbm, 21, rfl⟩
abbrev main_call1_v0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_values_4 : Ref sig .tc := ⟨.hbm, 52, rfl⟩
abbrev main_indices_5 : Ref sig .tc := ⟨.hbm, 53, rfl⟩
abbrev main_call2_v0 : Ref sig .tc := ⟨.hbm, 54, rfl⟩
abbrev main_v35 : Ref sig .tc := ⟨.hbm, 55, rfl⟩
abbrev main_call3_v0 : Ref sig .tc := ⟨.hbm, 56, rfl⟩
abbrev main_v36 : Ref sig .tc := ⟨.hbm, 57, rfl⟩
abbrev main_call4_v0 : Ref sig .tc := ⟨.hbm, 58, rfl⟩
abbrev main_call4_cst : Ref sig .tc := ⟨.hbm, 59, rfl⟩
abbrev main_call4_v1 : Ref sig .tc := ⟨.hbm, 60, rfl⟩
abbrev main_call4_v2 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call5_v0 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_call6_v0 : Ref sig .tc := ⟨.hbm, 80, rfl⟩
abbrev main_v52 : Ref sig .tc := ⟨.hbm, 81, rfl⟩
abbrev main_call7_v0 : Ref sig .tc := ⟨.hbm, 82, rfl⟩
abbrev main_v53 : Ref sig .tc := ⟨.hbm, 83, rfl⟩
abbrev main_call8_v0 : Ref sig .tc := ⟨.hbm, 84, rfl⟩
abbrev main_v54 : Ref sig .tc := ⟨.hbm, 85, rfl⟩
abbrev main_v55 : Ref sig .tc := ⟨.hbm, 86, rfl⟩
abbrev main_cst_8 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_9 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_10 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_11 : Ref sig .tc := ⟨.hbm, 104, rfl⟩
abbrev main_v70 : Ref sig .tc := ⟨.hbm, 105, rfl⟩
abbrev main_v71 : Ref sig .tc := ⟨.hbm, 106, rfl⟩
abbrev main_cst_12 : Ref sig .tc := ⟨.hbm, 107, rfl⟩
abbrev main_v72 : Ref sig .tc := ⟨.hbm, 108, rfl⟩
abbrev main_cst_13 : Ref sig .tc := ⟨.hbm, 109, rfl⟩
abbrev main_v73 : Ref sig .tc := ⟨.hbm, 110, rfl⟩
abbrev main_cst_14 : Ref sig .tc := ⟨.hbm, 111, rfl⟩
abbrev main_v74 : Ref sig .tc := ⟨.hbm, 112, rfl⟩
abbrev main_v75 : Ref sig .tc := ⟨.hbm, 113, rfl⟩

abbrev nD : Nat := 1
abbrev τ : Topo := Topo.v7x

variable {F : FTy → Type} [FloatOps F]
-- ==== Proof.KOuts.lean ====
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Outs

open Idealize.ShloMosaic Idealize.ShloMosaic.TcCoe Idealize.SL.Sem
open Idealize.ShloMosaic.Pipeline (Dat)
open Cert.KernelIdeal Cert.KernelIdeal.Gen

variable {F : FTy → Type} [FloatOps F]

theorem hz : (![0, 0] : Fin 2 → Nat) = fun _ => 0 := funext fun a => by fin_cases a <;> rfl

theorem hz3 : (![0, 0, 0] : Fin 3 → Nat) = fun _ => 0 := funext fun a => by fin_cases a <;> rfl

/-- The overlaps of the lanes. -/
def gOf (x2 : Vec F S64x16x1024 .f32) : Vec F S64x64 .f32 := k0_pay5 (k0_pay2 x2) (k0_pay3 x2) (k0_pay4 x2)

/-- The scaled update bases. -/
def uOf (x3 : Vec F S1024x1024 .f32) (x4 : Vec F S1024x1 .f32) : Vec F S1024x1024 .f32 := k0_pay8 (k0_pay6 x3) (k0_pay7 x3) x4

section
variable (x0 : Vec F S512x1024 .f32) (x1 : Vec F S1024x1024 .f32) (g : Vec F S64x64 .f32)

/-- The lane numbers of a block. -/
abbrev lanes : IVec S512x64 32 := iota .tc S512x64 32 [1] iota_S512x64_d1_w32

/-- The mask of the first final lane. -/
abbrev fin1 : IVec S512x64 1 := k0_pay23 (k0_pay13 x0 x1) lanes (k0_pay15 x0 x1) (k0_pay16 x0 x1) (k0_pay17 x0 x1) g

/-- The second final lane of each row. -/
abbrev fin2 : IVec S512x1 32 := k0_pay24 (k0_pay13 x0 x1) lanes (k0_pay15 x0 x1) (k0_pay16 x0 x1) (k0_pay17 x0 x1) g

/-- The block of rows a point writes. -/
def yOf (u : Vec F S1024x1024 .f32) : Vec F S512x1024 .f32 :=
  k0_pay1 (k0_pay11 x0) (k0_pay12 x0 x1) (k0_pay25 (F := F) lanes (fin1 x0 x1 g) (fin2 x0 x1 g))
    (iota .tc S64x1024 32 [0] iota_S64x1024_d0_w32) (Scalar.select (Scalar.cmpi .eq 64#32 0#32) 1#32 64#32) k0_pay28 u

/-- The sum of energies after a point. -/
def rawOf (raw : Vec F S1x1 .f32) : Vec F S1x1 .f32 := k0_pay26 (k0_pay13 x0 x1) lanes (fin1 x0 x1 g) (fin2 x0 x1 g) raw

/-- The sum of overlaps after a point. -/
def ovOf (ov : Vec F S1x1 .f32) : Vec F S1x1 .f32 :=
  k0_pay27 lanes (k0_pay19 (k0_pay13 x0 x1) lanes (k0_pay15 x0 x1) (k0_pay16 x0 x1) (k0_pay17 x0 x1)) g (k0_pay20 g)
    (fin1 x0 x1 g) (fin2 x0 x1 g) ov

end

variable (c : Dev nD) (i : grid0.Coords)
  (a1 : Memref sig .tc .vmem S512x1024 .f32) (h1 : a1.IsWhole)
  (a2 : Memref sig .tc .vmem S1024x1024 .f32) (h2 : a2.IsWhole)
  (a3 : Memref sig .tc .vmem S64x16x1024 .f32) (h3 : a3.IsWhole)
  (a4 : Memref sig .tc .vmem S1024x1024 .f32) (h4 : a4.IsWhole)
  (a5 : Memref sig .tc .vmem S1024x1 .f32) (h5 : a5.IsWhole)
  (a6 : Memref sig .tc .vmem S512x1024 .f32) (h6 : a6.IsWhole)
  (a7 : Memref sig .tc .vmem S1x1 .f32) (h7 : a7.IsWhole)
  (a8 : Memref sig .tc .vmem S1x1 .f32) (h8 : a8.IsWhole)
  (a9 : Memref sig .tc .vmem S64x64 .f32) (h9 : a9.IsWhole)
  (a10 : Memref sig .tc .vmem S1024x1024 .f32) (h10 : a10.IsWhole)
  (x0 : Vec F S512x1024 .f32) (x1 : Vec F S1024x1024 .f32) (x2 : Vec F S64x16x1024 .f32) (x3 : Vec F S1024x1024 .f32)
  (x4 : Vec F S1024x1 .f32) (xo6 xo7 : Vec F S1x1 .f32) (xs0 : Vec F S64x64 .f32) (xs1 : Vec F S1024x1024 .f32)

theorem out_B_5 (hc : ¬cond0_0 i) :
    out0_B_5 c i a1 h1 a2 h2 a3 h3 a4 h4 a5 h5 a6 h6 a7 h7 a8 h8 a9 h9 a10 h10 hc x0 x1 x2 x3 x4 xo6 xo7 xs0 xs1
      = yOf x0 x1 xs0 xs1 := by
  unfold out0_B_5
  rw [View.read_writes_eq_canon _ _ _ (cover0_B_5 c i a1 h1 a2 h2 a3 h3 a4 h4 a5 h5 a6 h6 a7 h7 a8 h8 a9 h9 a10 h10 hc x0 x1 x2 x3 x4 xo6 xo7 xs0 xs1)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S512x1024) hz, View.ld_unit_zero (S := S1024x1024) hz, View.ld_unit_zero (S := S64x16x1024) hz3, View.ld_unit_zero (S := S1024x1) hz, View.ld_unit_zero (S := S1x1) hz, View.ld_unit_zero (S := S64x64) hz, View.readCov_unit_zero (S := S1x1) _ hz, View.readCov_unit_zero (S := S64x64) _ hz, View.readCov_unit_zero (S := S1024x1024) _ hz, shapeCast_self]
  rfl

theorem out_B_6 (hc : ¬cond0_0 i) :
    out0_B_6 c i a1 h1 a2 h2 a3 h3 a4 h4 a5 h5 a6 h6 a7 h7 a8 h8 a9 h9 a10 h10 hc x0 x1 x2 x3 x4 xo6 xo7 xs0 xs1
      = rawOf x0 x1 xs0 xo6 := by
  unfold out0_B_6
  rw [View.read_writes_eq_canon _ _ _ (cover0_B_6 c i a1 h1 a2 h2 a3 h3 a4 h4 a5 h5 a6 h6 a7 h7 a8 h8 a9 h9 a10 h10 hc x0 x1 x2 x3 x4 xo6 xo7 xs0 xs1)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S512x1024) hz, View.ld_unit_zero (S := S1024x1024) hz, View.ld_unit_zero (S := S64x16x1024) hz3, View.ld_unit_zero (S := S1024x1) hz, View.ld_unit_zero (S := S1x1) hz, View.ld_unit_zero (S := S64x64) hz, View.readCov_unit_zero (S := S1x1) _ hz, View.readCov_unit_zero (S := S64x64) _ hz, View.readCov_unit_zero (S := S1024x1024) _ hz, shapeCast_self]
  rfl

theorem out_B_7 (hc : ¬cond0_0 i) :
    out0_B_7 c i a1 h1 a2 h2 a3 h3 a4 h4 a5 h5 a6 h6 a7 h7 a8 h8 a9 h9 a10 h10 hc x0 x1 x2 x3 x4 xo6 xo7 xs0 xs1
      = ovOf x0 x1 xs0 xo7 := by
  unfold out0_B_7
  rw [View.read_writes_eq_canon _ _ _ (cover0_B_7 c i a1 h1 a2 h2 a3 h3 a4 h4 a5 h5 a6 h6 a7 h7 a8 h8 a9 h9 a10 h10 hc x0 x1 x2 x3 x4 xo6 xo7 xs0 xs1)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S512x1024) hz, View.ld_unit_zero (S := S1024x1024) hz, View.ld_unit_zero (S := S64x16x1024) hz3, View.ld_unit_zero (S := S1024x1) hz, View.ld_unit_zero (S := S1x1) hz, View.ld_unit_zero (S := S64x64) hz, View.readCov_unit_zero (S := S1x1) _ hz, View.readCov_unit_zero (S := S64x64) _ hz, View.readCov_unit_zero (S := S1024x1024) _ hz, shapeCast_self]
  rfl

theorem out_A_5 (hc : cond0_0 i) :
    out0_A_5 c i a1 h1 a2 h2 a3 h3 a4 h4 a5 h5 a6 h6 a7 h7 a8 h8 a9 h9 a10 h10 hc x0 x1 x2 x3 x4
      = yOf x0 x1 (gOf x2) (uOf x3 x4) := by
  unfold out0_A_5
  rw [View.read_writes_eq_canon _ _ _ (cover0_A_5 c i a1 h1 a2 h2 a3 h3 a4 h4 a5 h5 a6 h6 a7 h7 a8 h8 a9 h9 a10 h10 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S512x1024) hz, View.ld_unit_zero (S := S1024x1024) hz, View.ld_unit_zero (S := S64x16x1024) hz3, View.ld_unit_zero (S := S1024x1) hz, View.ld_unit_zero (S := S1x1) hz, View.ld_unit_zero (S := S64x64) hz, View.readCov_unit_zero (S := S1x1) _ hz, View.readCov_unit_zero (S := S64x64) _ hz, View.readCov_unit_zero (S := S1024x1024) _ hz, shapeCast_self]
  rfl

theorem out_A_6 (hc : cond0_0 i) :
    out0_A_6 c i a1 h1 a2 h2 a3 h3 a4 h4 a5 h5 a6 h6 a7 h7 a8 h8 a9 h9 a10 h10 hc x0 x1 x2 x3 x4
      = rawOf x0 x1 (gOf x2) k0_pay9 := by
  unfold out0_A_6
  rw [View.read_writes_eq_canon _ _ _ (cover0_A_6 c i a1 h1 a2 h2 a3 h3 a4 h4 a5 h5 a6 h6 a7 h7 a8 h8 a9 h9 a10 h10 hc x0 x1 x2 x3 x4)]
  unfold kernelRun0_A
  dsimp only
  sl_unfold_words
  rw [View.canon_cons_unit_zero (S := S1x1) hz]
  simp only [View.readAt_eq_ld, h1.read_unread, h2.read_unread, h3.read_unread, h4.read_unread, h5.read_unread, h6.read_unread, h7.read_unread, h8.read_unread, h9.read_unread, h10.read_unread, View.ld_unit_zero (S := S512x1024) hz, View.ld_unit_zero (S := S1024x1024) hz, View.ld_unit_zero (S := S64x16x1024) hz3, View.ld_unit_zero (S := S1024x1) hz, View.ld_unit_zero (S := S1x1) hz, View.ld_unit_zero (S := S64x64) hz, View.readCov_unit_zero (S := S1x1) _ hz, View.readCov_unit_zero (S := S64x64) _ hz, View.readCov_unit_zero (S := S1024x1024) _ hz, shapeCast_self]
  rfl

theorem out_A_7 (hc : cond0_0 i) :
    out0_A_7 c i a1 h1 a2 h2 a3 h3 a4 h4 a5 h5 a6 h6 a7 h7 a8 h8 a9 h9 a10 h10 hc x0 x1 x2 x3 x4
      = ovOf x0 x1 (gOf x2) k0_pay10 := by
  unfold out0_A_7
  rw [View.read_writes_eq_canon _ _ _ (cover0_A_7 c i a1 h1 a2 h2 a3 h3 a4 h4 a5 h5 a6 h6 a7 h7 a8 h8 a9 h9 a10 h10 hc x0 x1 x2 x3 x4)]
  unfold kernelRun0_A
  dsimp only
  sl_unfold_words
  rw [View.canon_cons_unit_zero (S := S1x1) hz]
  simp only [View.readAt_eq_ld, h1.read_unread, h2.read_unread, h3.read_unread, h4.read_unread, h5.read_unread, h6.read_unread, h7.read_unread, h8.read_unread, h9.read_unread, h10.read_unread, View.ld_unit_zero (S := S512x1024) hz, View.ld_unit_zero (S := S1024x1024) hz, View.ld_unit_zero (S := S64x16x1024) hz3, View.ld_unit_zero (S := S1024x1) hz, View.ld_unit_zero (S := S1x1) hz, View.ld_unit_zero (S := S64x64) hz, View.readCov_unit_zero (S := S1x1) _ hz, View.readCov_unit_zero (S := S64x64) _ hz, View.readCov_unit_zero (S := S1024x1024) _ hz, shapeCast_self]
  rfl

theorem sout_A_0 (hc : cond0_0 i) :
    sout0_A_0 c i a1 h1 a2 h2 a3 h3 a4 h4 a5 h5 a6 h6 a7 h7 a8 h8 a9 h9 a10 h10 hc x0 x1 x2 x3 x4
      = gOf x2 := by
  unfold sout0_A_0
  rw [View.read_writes_eq_canon _ _ _ (scover0_A_0 c i a1 h1 a2 h2 a3 h3 a4 h4 a5 h5 a6 h6 a7 h7 a8 h8 a9 h9 a10 h10 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S512x1024) hz, View.ld_unit_zero (S := S1024x1024) hz, View.ld_unit_zero (S := S64x16x1024) hz3, View.ld_unit_zero (S := S1024x1) hz, View.ld_unit_zero (S := S1x1) hz, View.ld_unit_zero (S := S64x64) hz, View.readCov_unit_zero (S := S1x1) _ hz, View.readCov_unit_zero (S := S64x64) _ hz, View.readCov_unit_zero (S := S1024x1024) _ hz, shapeCast_self]
  rfl

theorem sout_A_1 (hc : cond0_0 i) :
    sout0_A_1 c i a1 h1 a2 h2 a3 h3 a4 h4 a5 h5 a6 h6 a7 h7 a8 h8 a9 h9 a10 h10 hc x0 x1 x2 x3 x4
      = uOf x3 x4 := by
  unfold sout0_A_1
  rw [View.read_writes_eq_canon _ _ _ (scover0_A_1 c i a1 h1 a2 h2 a3 h3 a4 h4 a5 h5 a6 h6 a7 h7 a8 h8 a9 h9 a10 h10 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S512x1024) hz, View.ld_unit_zero (S := S1024x1024) hz, View.ld_unit_zero (S := S64x16x1024) hz3, View.ld_unit_zero (S := S1024x1) hz, View.ld_unit_zero (S := S1x1) hz, View.ld_unit_zero (S := S64x64) hz, View.readCov_unit_zero (S := S1x1) _ hz, View.readCov_unit_zero (S := S64x64) _ hz, View.readCov_unit_zero (S := S1024x1024) _ hz, shapeCast_self]
  rfl

end Cert.KernelIdeal.Outs

end
-- ==== Proof.KGrid.lean ====
module

public import proofs.«01_k».proof.Proof.KOuts
public import Idealize.ShloMosaic.Lib.Pointwise

@[expose] public section

set_option maxRecDepth 16384

noncomputable section

namespace Cert.KernelIdeal.Grid

open Idealize.ShloMosaic Idealize.ShloMosaic.TcCoe Idealize.SL.Sem
open Idealize.ShloMosaic.Pipeline (Dat)
open Cert.KernelIdeal Cert.KernelIdeal.Gen Cert.KernelIdeal.Outs

variable {F : FTy → Type} [FloatOps F]
variable (m : (ℓ : Loc nD τ sig) → Buf (Elt F) ℓ) (ρ : Dev nD → PrngReg)

/-- Row block `t` of the data. -/
def xblk (A : Vec F S2048x1024 .f32) (t : Fin 4) : Vec F S512x1024 .f32 :=
  fun j => A (ix2 ⟨512 * t.val + (j 0).val, by have h1 := t.isLt; have h2 : (j 0).val < 512 := (j 0).isLt; omega⟩ (j 1))

/-- The arrays as the region finds them. -/
abbrev A0 (c : Dev nD) : Vec F S2048x1024 .f32 := V m c main_call0_v0
abbrev A1 (c : Dev nD) : Vec F S1024x1024 .f32 := V m c main_call0_v7
abbrev A2 (c : Dev nD) : Vec F S64x16x1024 .f32 := V m c main_call0_v8
abbrev A3 (c : Dev nD) : Vec F S1024x1024 .f32 := V m c main_call0_v10
abbrev A4 (c : Dev nD) : Vec F S1024x1 .f32 := V m c main_call0_v12

theorem iblk1 (c : Dev nD) (t : Fin cfg0.N) : iblk m c 1 t = A1 m c := by
  have hz' : (fun a => win0_1.index t a * main_call0_v7.ty.shape.size a) = fun _ => 0 := by
    rcases fin_N0 t with rfl | rfl | rfl | rfl <;> exact funext fun a => by fin_cases a <;> decide
  exact Memref.read_access_unit_zero (Elt F) main_call0_v7 hz' (fun a => by rw [congrFun hz' a]; simp) (V m c main_call0_v7)

theorem iblk2 (c : Dev nD) (t : Fin cfg0.N) : iblk m c 2 t = A2 m c := by
  have hz' : (fun a => win0_2.index t a * main_call0_v8.ty.shape.size a) = fun _ => 0 := by
    rcases fin_N0 t with rfl | rfl | rfl | rfl <;> exact funext fun a => by fin_cases a <;> decide
  exact Memref.read_access_unit_zero (Elt F) main_call0_v8 hz' (fun a => by rw [congrFun hz' a]; simp) (V m c main_call0_v8)

theorem iblk3 (c : Dev nD) (t : Fin cfg0.N) : iblk m c 3 t = A3 m c := by
  have hz' : (fun a => win0_3.index t a * main_call0_v10.ty.shape.size a) = fun _ => 0 := by
    rcases fin_N0 t with rfl | rfl | rfl | rfl <;> exact funext fun a => by fin_cases a <;> decide
  exact Memref.read_access_unit_zero (Elt F) main_call0_v10 hz' (fun a => by rw [congrFun hz' a]; simp) (V m c main_call0_v10)

theorem iblk4 (c : Dev nD) (t : Fin cfg0.N) : iblk m c 4 t = A4 m c := by
  have hz' : (fun a => win0_4.index t a * main_call0_v12.ty.shape.size a) = fun _ => 0 := by
    rcases fin_N0 t with rfl | rfl | rfl | rfl <;> exact funext fun a => by fin_cases a <;> decide
  exact Memref.read_access_unit_zero (Elt F) main_call0_v12 hz' (fun a => by rw [congrFun hz' a]; simp) (V m c main_call0_v12)

theorem iblk0 (c : Dev nD) (t : Fin cfg0.N) : iblk m c 0 t = xblk (A0 m c) (t.cast N_0) := by
  have hi : win0_0.index t 0 = t.val ∧ win0_0.index t 1 = 0 := by
    rcases fin_N0 t with rfl | rfl | rfl | rfl <;> decide
  funext j
  unfold iblk xblk
  rw [View.read_apply]
  show V m c main_call0_v0 _ = V m c main_call0_v0 _
  congr 1
  funext a
  apply Fin.ext
  match a with
  | ⟨0, _⟩ => show win0_0.index t 0 * 512 + 1 * (j 0).val = 512 * t.val + (j 0).val; rw [hi.1]; omega
  | ⟨1, _⟩ => show win0_0.index t 1 * 1024 + 1 * (j 1).val = (j 1).val; rw [hi.2]; omega

/-- The overlaps and the update bases the first point leaves. -/
abbrev gv (c : Dev nD) : Vec F S64x64 .f32 := gOf (A2 m c)
abbrev uv (c : Dev nD) : Vec F S1024x1024 .f32 := uOf (A3 m c) (A4 m c)

/-- The sum of energies after point `n`. -/
def rawN (c : Dev nD) : (n : ℕ) → n < 4 → Vec F S1x1 .f32
  | 0, h => rawOf (xblk (A0 m c) ⟨0, h⟩) (A1 m c) (gv m c) k0_pay9
  | n + 1, h => rawOf (xblk (A0 m c) ⟨n + 1, h⟩) (A1 m c) (gv m c) (rawN c n (Nat.lt_of_succ_lt h))

/-- The sum of overlaps after point `n`. -/
def ovN (c : Dev nD) : (n : ℕ) → n < 4 → Vec F S1x1 .f32
  | 0, h => ovOf (xblk (A0 m c) ⟨0, h⟩) (A1 m c) (gv m c) k0_pay10
  | n + 1, h => ovOf (xblk (A0 m c) ⟨n + 1, h⟩) (A1 m c) (gv m c) (ovN c n (Nat.lt_of_succ_lt h))

theorem outsAt_eq (c : Dev nD) : ∀ (n : ℕ) (h : n < cfg0.N), outsAt0 m c n h
      = (yOf (xblk (A0 m c) ⟨n, N_0 ▸ h⟩) (A1 m c) (gv m c) (uv m c), rawN m c n (N_0 ▸ h), ovN m c n (N_0 ▸ h),
          gv m c, uv m c)
  | 0, h => by
    refine (outsAt0_A m c ⟨0, h⟩ rfl).trans ?_
    rw [out_A_5, out_A_6, out_A_7, sout_A_0, sout_A_1, iblk0, iblk1, iblk2, iblk3, iblk4]
    rfl
  | n + 1, h => by
    have hN : cfg0.N = 4 := N_0
    have hB : ¬(⟨n + 1, h⟩ : Fin cfg0.N).val % 4 = 0 := by dsimp only; omega
    refine (outsAt0_B m c ⟨n + 1, h⟩ hB).trans ?_
    have ih := outsAt_eq c n (Nat.lt_of_succ_lt h)
    have e : outsAt0 m c ((⟨n + 1, h⟩ : Fin cfg0.N).val - 1) (Nat.lt_of_le_of_lt (Nat.sub_le _ _) h) = _ := ih
    rw [out_B_5, out_B_6, out_B_7, iblk0, iblk1]
    unfold sout0_B_0 sout0_B_1
    rw [e]
    rfl

/-- The array of results `y`. -/
def yArr (c : Dev nD) : Vec F S2048x1024 .f32 := fun i =>
  yOf (xblk (A0 m c) ⟨(i 0).val / 512, by have h : (i 0).val < 2048 := (i 0).isLt; omega⟩) (A1 m c) (gv m c) (uv m c)
    (ix2 ⟨(i 0).val % 512, Nat.mod_lt _ (by decide)⟩ (i 1))

theorem yArr_at (c : Dev nD) (t : Fin 4) (j : S512x1024.Idx) (i : S2048x1024.Idx) (h0 : (i 0).val = 512 * t.val + (j 0).val)
    (h1 : (i 1).val = (j 1).val) : yArr m c i = yOf (xblk (A0 m c) t) (A1 m c) (gv m c) (uv m c) j := by
  have hj : (j 0).val < 512 := (j 0).isLt
  have e1 : (⟨(i 0).val / 512, by have h : (i 0).val < 2048 := (i 0).isLt; omega⟩ : Fin 4) = t := Fin.ext (by show (i 0).val / 512 = _; omega)
  have e2 : (ix2 ⟨(i 0).val % 512, Nat.mod_lt _ (by decide)⟩ (i 1) : S512x1024.Idx) = j := by
    funext a
    apply Fin.ext
    match a with
    | ⟨0, _⟩ => show (i 0).val % 512 = (j 0).val; omega
    | ⟨1, _⟩ => exact h1
  unfold yArr
  rw [e1, e2]

theorem flushed5 (c : Dev nD) (t : Fin cfg0.N) (hf : (cfg0.win 5).flush t = true) :
    (dats m 0 c).flushed 5 t = ((cfg0.win 5).blk t).view.read (Elt F) (yArr m c) := by
  have hi : win0_5.index t 0 = t.val ∧ win0_5.index t 1 = 0 := by
    rcases fin_N0 t with rfl | rfl | rfl | rfl <;> decide
  show (cfg0.win 5).cut (grid0.coords t) ((dats m 0 c).after 5 t) = _
  rw [after0_5, outsAt_eq]
  funext j
  rw [View.read_apply]
  refine (yArr_at m c (t.cast N_0) j _ ?_ ?_).symm
  · show win0_5.index t 0 * 512 + 1 * (j 0).val = 512 * t.val + (j 0).val; rw [hi.1]; omega
  · show win0_5.index t 1 * 1024 + 1 * (j 1).val = (j 1).val; rw [hi.2]; omega

theorem final5 (c : Dev nD) : (dats m 0 c).arrAt 5 cfg0.N = yArr m c :=
  (dats m 0 c).arrAt_eq_of_cover 5 (yArr m c) (flushed5 m c) fun i => by
    have h0 : (i 0 : Nat) < 2048 := (i 0).isLt
    have h1 : (i 1 : Nat) < 1024 := (i 1).isLt
    have hN : cfg0.N = 4 := N_0
    obtain ⟨t, ht⟩ : ∃ t : Fin cfg0.N, t.val = (i 0 : Nat) / 512 := ⟨⟨(i 0 : Nat) / 512, by omega⟩, rfl⟩
    have hi : win0_5.index t 0 * win0_5.size 0 = 512 * t.val ∧ win0_5.index t 1 * win0_5.size 1 = 0
        ∧ win0_5.xsize (grid0.coords t) 0 = 512 ∧ win0_5.xsize (grid0.coords t) 1 = 1024 := by
      rcases fin_N0 t with rfl | rfl | rfl | rfl <;> decide +kernel
    refine ⟨t, flush0_5 t, ?_⟩
    show i ∈ ((View.whole main_call0_v13_0).slice (win0_5.rect t)).set
    rw [View.set_slice_whole, Rect.mem_set_unit]
    intro a
    match a with
    | ⟨0, _⟩ => show win0_5.index t 0 * win0_5.size 0 ≤ (i 0 : Nat) ∧ (i 0 : Nat) < win0_5.index t 0 * win0_5.size 0 + win0_5.xsize (grid0.coords t) 0
                rw [hi.1, hi.2.2.1]; omega
    | ⟨1, _⟩ => show win0_5.index t 1 * win0_5.size 1 ≤ (i 1 : Nat) ∧ (i 1 : Nat) < win0_5.index t 1 * win0_5.size 1 + win0_5.xsize (grid0.coords t) 1
                rw [hi.2.1, hi.2.2.2]; omega

/-- The sums after the last point. -/
abbrev rawF (c : Dev nD) : Vec F S1x1 .f32 := rawN m c 3 (by decide)
abbrev ovF (c : Dev nD) : Vec F S1x1 .f32 := ovN m c 3 (by decide)

theorem flushed6 (c : Dev nD) (t : Fin cfg0.N) (hf : (cfg0.win 6).flush t = true) :
    (dats m 0 c).flushed 6 t = ((cfg0.win 6).blk t).view.read (Elt F) (rawF m c) := by
  have hN : cfg0.N = 4 := N_0
  have h3 : t.val = 3 := by have := (flush0_6 t).mp hf; have := t.isLt; omega
  obtain rfl : t = t0_3 := Fin.ext h3
  show (cfg0.win 6).cut (grid0.coords t0_3) ((dats m 0 c).after 6 t0_3) = _
  rw [after0_6, outsAt_eq]
  have hz' : (fun a => win0_6.index t0_3 a * main_call0_v13_1.ty.shape.size a) = fun _ => 0 := funext fun a => by fin_cases a <;> decide
  exact (Memref.read_access_unit_zero (Elt F) main_call0_v13_1 hz' (fun a => by rw [congrFun hz' a]; simp) (rawF m c)).symm

theorem flushed7 (c : Dev nD) (t : Fin cfg0.N) (hf : (cfg0.win 7).flush t = true) :
    (dats m 0 c).flushed 7 t = ((cfg0.win 7).blk t).view.read (Elt F) (ovF m c) := by
  have hN : cfg0.N = 4 := N_0
  have h3 : t.val = 3 := by have := (flush0_7 t).mp hf; have := t.isLt; omega
  obtain rfl : t = t0_3 := Fin.ext h3
  show (cfg0.win 7).cut (grid0.coords t0_3) ((dats m 0 c).after 7 t0_3) = _
  rw [after0_7, outsAt_eq]
  have hz' : (fun a => win0_7.index t0_3 a * main_call0_v13_2.ty.shape.size a) = fun _ => 0 := funext fun a => by fin_cases a <;> decide
  exact (Memref.read_access_unit_zero (Elt F) main_call0_v13_2 hz' (fun a => by rw [congrFun hz' a]; simp) (ovF m c)).symm

theorem final6 (c : Dev nD) : (dats m 0 c).arrAt 6 cfg0.N = rawF m c :=
  (dats m 0 c).arrAt_eq_of_cover 6 (rawF m c) (flushed6 m c) fun i =>
    ⟨t0_3, (flush0_6 t0_3).mpr rfl, by
      show i ∈ ((View.whole main_call0_v13_1).slice (win0_6.rect t0_3)).set
      rw [View.set_slice_whole, Rect.mem_set_unit]
      intro a
      have h0 : (i 0 : Nat) < 1 := (i 0).isLt
      have h1 : (i 1 : Nat) < 1 := (i 1).isLt
      match a with
      | ⟨0, _⟩ => show win0_6.index t0_3 0 * win0_6.size 0 ≤ (i 0 : Nat) ∧ (i 0 : Nat) < win0_6.index t0_3 0 * win0_6.size 0 + win0_6.xsize (grid0.coords t0_3) 0
                  rw [show win0_6.index t0_3 0 * win0_6.size 0 = 0 from by decide +kernel, show win0_6.xsize (grid0.coords t0_3) 0 = 1 from by decide +kernel]; omega
      | ⟨1, _⟩ => show win0_6.index t0_3 1 * win0_6.size 1 ≤ (i 1 : Nat) ∧ (i 1 : Nat) < win0_6.index t0_3 1 * win0_6.size 1 + win0_6.xsize (grid0.coords t0_3) 1
                  rw [show win0_6.index t0_3 1 * win0_6.size 1 = 0 from by decide +kernel, show win0_6.xsize (grid0.coords t0_3) 1 = 1 from by decide +kernel]; omega⟩

theorem final7 (c : Dev nD) : (dats m 0 c).arrAt 7 cfg0.N = ovF m c :=
  (dats m 0 c).arrAt_eq_of_cover 7 (ovF m c) (flushed7 m c) fun i =>
    ⟨t0_3, (flush0_7 t0_3).mpr rfl, by
      show i ∈ ((View.whole main_call0_v13_2).slice (win0_7.rect t0_3)).set
      rw [View.set_slice_whole, Rect.mem_set_unit]
      intro a
      have h0 : (i 0 : Nat) < 1 := (i 0).isLt
      have h1 : (i 1 : Nat) < 1 := (i 1).isLt
      match a with
      | ⟨0, _⟩ => show win0_7.index t0_3 0 * win0_7.size 0 ≤ (i 0 : Nat) ∧ (i 0 : Nat) < win0_7.index t0_3 0 * win0_7.size 0 + win0_7.xsize (grid0.coords t0_3) 0
                  rw [show win0_7.index t0_3 0 * win0_7.size 0 = 0 from by decide +kernel, show win0_7.xsize (grid0.coords t0_3) 0 = 1 from by decide +kernel]; omega
      | ⟨1, _⟩ => show win0_7.index t0_3 1 * win0_7.size 1 ≤ (i 1 : Nat) ∧ (i 1 : Nat) < win0_7.index t0_3 1 * win0_7.size 1 + win0_7.xsize (grid0.coords t0_3) 1
                  rw [show win0_7.index t0_3 1 * win0_7.size 1 = 0 from by decide +kernel, show win0_7.xsize (grid0.coords t0_3) 1 = 1 from by decide +kernel]; omega⟩

/-! ## The results after the region -/

theorem warr5 (c : Dev nD) : Pipeline.withArrays (cfgs 0).spec c (V0 m c) (fun w => (dats m 0 c).arrAt w (cfgs 0).N)
    (Proc.devRef .tc main_call0_v13_0) = yArr m c :=
  (Pipeline.withArrays_arr spec0 (by decide) c (V0 m c) (fun w => (dats m 0 c).arrAt w cfg0.N) 5).trans (final5 m c)

theorem warr6 (c : Dev nD) : Pipeline.withArrays (cfgs 0).spec c (V0 m c) (fun w => (dats m 0 c).arrAt w (cfgs 0).N)
    (Proc.devRef .tc main_call0_v13_1) = rawF m c :=
  (Pipeline.withArrays_arr spec0 (by decide) c (V0 m c) (fun w => (dats m 0 c).arrAt w cfg0.N) 6).trans (final6 m c)

theorem warr7 (c : Dev nD) : Pipeline.withArrays (cfgs 0).spec c (V0 m c) (fun w => (dats m 0 c).arrAt w (cfgs 0).N)
    (Proc.devRef .tc main_call0_v13_2) = ovF m c :=
  (Pipeline.withArrays_arr spec0 (by decide) c (V0 m c) (fun w => (dats m 0 c).arrAt w cfg0.N) 7).trans (final7 m c)

/-- The five results. -/
def res0 (c : Dev nD) : Vec F S1x2048x1024 .f32 := shapeCast S1x2048x1024 (yArr m c) shapeCasts_S2048x1024_S1x2048x1024
def res3 (c : Dev nD) : Vec F S_ .f32 := Host.divf (shapeCast S_ (rawF m c) shapeCasts_S1x1_S_) (constant S_ .f32 0x45000000#32)
def res2 (c : Dev nD) : Vec F S_ .f32 := Host.divf (shapeCast S_ (ovF m c) shapeCasts_S1x1_S_) (constant S_ .f32 0x45000000#32)
def res4 (c : Dev nD) : Vec F S_ .f32 := subf (res3 m c) (res2 m c)
def res1 (c : Dev nD) : Vec F S_ .f32 := Host.negf (res4 m c)

theorem tail0 (c : Dev nD) : Pipeline.afterTail₀ cfgs (dats m) 0 (V0 m) [hostOps1] c main_v0_0 = res0 m c := by
  unfold Pipeline.afterTail₀
  show StableHlo.after hostOps1 _ _ = _
  after_results
  unfold res0
  rw [warr5]
  rfl

theorem tail3 (c : Dev nD) : Pipeline.afterTail₀ cfgs (dats m) 0 (V0 m) [hostOps1] c main_v0_3 = res3 m c := by
  unfold Pipeline.afterTail₀
  show StableHlo.after hostOps1 _ _ = _
  after_results
  unfold res3
  rw [warr6]
  rfl

theorem tail2 (c : Dev nD) : Pipeline.afterTail₀ cfgs (dats m) 0 (V0 m) [hostOps1] c main_v0_2 = res2 m c := by
  unfold Pipeline.afterTail₀
  show StableHlo.after hostOps1 _ _ = _
  after_results
  unfold res2
  rw [warr7]
  rfl

theorem tail4 (c : Dev nD) : Pipeline.afterTail₀ cfgs (dats m) 0 (V0 m) [hostOps1] c main_v0_4 = res4 m c := by
  unfold Pipeline.afterTail₀
  show StableHlo.after hostOps1 _ _ = _
  after_results
  unfold res4 res3 res2
  rw [warr6, warr7]
  rfl

theorem tail1 (c : Dev nD) : Pipeline.afterTail₀ cfgs (dats m) 0 (V0 m) [hostOps1] c main_v0_1 = res1 m c := by
  unfold Pipeline.afterTail₀
  show StableHlo.after hostOps1 _ _ = _
  after_results
  unfold res1 res4 res3 res2
  rw [warr6, warr7]
  rfl

theorem run : θ_run defs (onTc (τ := τ) (main (F := F))) ⟨m, fun _ => 0, ρ⟩ (fun r => ∀ c : Dev nD,
      r.2.mem ((c.tc : Thread nD τ).loc main_v0_0) = res0 m c
      ∧ r.2.mem ((c.tc : Thread nD τ).loc main_v0_1) = res1 m c
      ∧ r.2.mem ((c.tc : Thread nD τ).loc main_v0_2) = res2 m c
      ∧ r.2.mem ((c.tc : Thread nD τ).loc main_v0_3) = res3 m c
      ∧ r.2.mem ((c.tc : Thread nD τ).loc main_v0_4) = res4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_v0_0 (Pipeline.mem_restRefs_of main_v0_0 (by decide) (by decide))).trans (tail0 m c),
      ((h c).2 main_v0_1 (Pipeline.mem_restRefs_of main_v0_1 (by decide) (by decide))).trans (tail1 m c),
      ((h c).2 main_v0_2 (Pipeline.mem_restRefs_of main_v0_2 (by decide) (by decide))).trans (tail2 m c),
      ((h c).2 main_v0_3 (Pipeline.mem_restRefs_of main_v0_3 (by decide) (by decide))).trans (tail3 m c),
      ((h c).2 main_v0_4 (Pipeline.mem_restRefs_of main_v0_4 (by decide) (by decide))).trans (tail4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Grid

end
-- ==== Proof.Spec.lean ====
module

public import Idealize.ShloMosaic.PureOps.Ideal.Laws
public import Idealize.ShloMosaic.Lib.Pointwise

@[expose] public section

noncomputable section

namespace Cert.Spec

open Idealize.ShloMosaic

/-- The arguments' types. -/
abbrev T0 : Type := (⟨3, ![1, 2048, 1024]⟩ : Shape).Idx → EReal
abbrev T1 : Type := (⟨3, ![1024, 64, 16]⟩ : Shape).Idx → EReal
abbrev T2 : Type := (⟨3, ![64, 1024, 16]⟩ : Shape).Idx → EReal
abbrev T3 : Type := (⟨2, ![64, 16]⟩ : Shape).Idx → EReal

/-- The least norm. -/
abbrev eps : EReal := Ideal.ofBits .f32 0x2B8CBCCC#32

/-- The bound of the update scales. -/
abbrev lam : EReal := Ideal.ofBits .f32 0x3DCCCCCD#32

/-- The unit columns of the read bases. -/
def vn (a1 : T1) (d : Fin 1024) (m : Fin 64) (b : Fin 16) : EReal :=
  Ideal.div (a1 (ix3 d m b)) (max (Ideal.sqrt (∑ d', a1 (ix3 d' m b) * a1 (ix3 d' m b))) eps)

/-- The reading of row `n` by expert `m`. -/
def rr (a0 : T0) (a1 : T1) (n : Fin 2048) (m : Fin 64) (b : Fin 16) : EReal :=
  ∑ d, a0 (ix3 0 n d) * vn a1 d m b

/-- The energy of row `n` at expert `m`. -/
def en (a0 : T0) (a1 : T1) (n : Fin 2048) (m : Fin 64) : EReal := ∑ b, rr a0 a1 n m b * rr a0 a1 n m b

/-- The norm of a whole read basis. -/
def gn (a1 : T1) (m : Fin 64) : EReal := max (Ideal.sqrt (∑ b, ∑ d, vn a1 d m b * vn a1 d m b)) eps

/-- The overlap of two experts. -/
def gg (a1 : T1) (m m' : Fin 64) : EReal :=
  ∑ b, ∑ d, (vn a1 d m b * Ideal.div 1 (gn a1 m)) * (vn a1 d m' b * Ideal.div 1 (gn a1 m'))

/-- The scaled update basis. -/
def ue (a2 : T2) (a3 : T3) (m : Fin 64) (d : Fin 1024) (b : Fin 16) : EReal :=
  a2 (ix3 m d b) * Ideal.div (Ideal.tanh (a3 (ix2 m b)) * lam)
    (max (Ideal.sqrt (∑ d', a2 (ix3 m d' b) * a2 (ix3 m d' b))) eps)

end Cert.Spec

end
-- ==== Proof.KHost.lean ====
module

public import proofs.«01_k».proof.Proof.KGrid
public import proofs.«01_k».proof.Proof.Spec

@[expose] public section

set_option maxRecDepth 16384

noncomputable section

namespace Cert.KernelIdeal.Host0

open Idealize.ShloMosaic Idealize.ShloMosaic.TcCoe Idealize.SL.Sem
open Cert.KernelIdeal Cert.KernelIdeal.Gen Cert.KernelIdeal.Grid Cert.Spec

variable (m : (ℓ : Loc nD τ sig) → Buf (Elt Ideal) ℓ)

/-- The arguments. -/
abbrev a0 (c : Dev nD) : T0 := m ((c.tc : Thread nD τ).loc main_arg0)
abbrev a1 (c : Dev nD) : T1 := m ((c.tc : Thread nD τ).loc main_arg1)
abbrev a2 (c : Dev nD) : T2 := m ((c.tc : Thread nD τ).loc main_arg2)
abbrev a3 (c : Dev nD) : T3 := m ((c.tc : Thread nD τ).loc main_arg3)

/-- The unit columns as the program computes them. -/
def vnH (v : FVec Ideal S1024x64x16 .f32) : FVec Ideal S1024x64x16 .f32 :=
  Host.divf v (broadcastInDim S1024x64x16 ![0, 1, 2] bcast_S1x64x16_S1024x64x16_0_1_2
    (maximumf (Host.sqrt (broadcastInDim S1x64x16 ![1, 2] bcast_S64x16_S1x64x16_1_2
      (Host.reduceAdd (mulf v v) (constant S_ .f32 0x00000000#32) reducesTo_S1024x64x16_S64x16_d0 h_S_)))
      (broadcastInDim S1x64x16 ![] bcast_S_S1x64x16 (constant S_ .f32 0x2B8CBCCC#32))))

theorem A0_eq (c : Dev nD) : A0 m c = shapeCast S2048x1024 (a0 m c) shapeCasts_S1x2048x1024_S2048x1024 := by
  show StableHlo.after hostOps0 _ (Proc.devRef .tc main_call0_v0) = _
  after_results
  rfl

theorem A1_eq (c : Dev nD) : A1 m c = shapeCast S1024x1024 (transpose S1024x16x64 [0, 2, 1] (vnH (a1 m c)) transposes_S1024x64x16_S1024x16x64_0_2_1) shapeCasts_S1024x16x64_S1024x1024 := by
  show StableHlo.after hostOps0 _ (Proc.devRef .tc main_call0_v7) = _
  after_results
  rfl

theorem A2_eq (c : Dev nD) : A2 m c = transpose S64x16x1024 [1, 2, 0] (vnH (a1 m c)) transposes_S1024x64x16_S64x16x1024_1_2_0 := by
  show StableHlo.after hostOps0 _ (Proc.devRef .tc main_call0_v8) = _
  after_results
  rfl

theorem A3_eq (c : Dev nD) : A3 m c = shapeCast S1024x1024 (transpose S16x64x1024 [2, 0, 1] (a2 m c) transposes_S64x1024x16_S16x64x1024_2_0_1) shapeCasts_S16x64x1024_S1024x1024 := by
  show StableHlo.after hostOps0 _ (Proc.devRef .tc main_call0_v10) = _
  after_results
  rfl

theorem A4_eq (c : Dev nD) : A4 m c = shapeCast S1024x1 (transpose S16x64 [1, 0] (a3 m c) transposes_S64x16_S16x64_1_0) shapeCasts_S16x64_S1024x1 := by
  show StableHlo.after hostOps0 _ (Proc.devRef .tc main_call0_v12) = _
  after_results
  rfl

theorem vnH_apply (v : FVec Ideal S1024x64x16 .f32) (d : Fin 1024) (x : Fin 64) (b : Fin 16) :
    vnH v (ix3 d x b) = vn v d x b := by
  unfold vnH vn
  pointwise

/-- Column `j` of the flattened bases: expert `j % 64`, direction `j / 64`. -/
abbrev cx (j : Fin 1024) : Fin 64 := ⟨j.val % 64, Nat.mod_lt _ (by decide)⟩
abbrev cb (j : Fin 1024) : Fin 16 := ⟨j.val / 64, by have := j.isLt; omega⟩

theorem A0_apply (c : Dev nD) (n : Fin 2048) (d : Fin 1024) : A0 m c (ix2 n d) = a0 m c (ix3 0 n d) := by
  rw [A0_eq]
  pointwise

theorem A1_apply (c : Dev nD) (d j : Fin 1024) : A1 m c (ix2 d j) = vn (a1 m c) d (cx j) (cb j) := by
  rw [A1_eq, ← vnH_apply]
  pointwise

theorem A2_apply (c : Dev nD) (x : Fin 64) (b : Fin 16) (d : Fin 1024) : A2 m c (ix3 x b d) = vn (a1 m c) d x b := by
  rw [A2_eq, ← vnH_apply]
  pointwise

theorem A3_apply (c : Dev nD) (d j : Fin 1024) : A3 m c (ix2 j d) = a2 m c (ix3 (cx j) d (cb j)) := by
  rw [A3_eq]
  pointwise

theorem A4_apply (c : Dev nD) (j : Fin 1024) : A4 m c (ix2 j 0) = a3 m c (ix2 (cx j) (cb j)) := by
  rw [A4_eq]
  pointwise

end Cert.KernelIdeal.Host0

end
-- ==== Proof.KPrep.lean ====
module

public import proofs.«01_k».proof.Proof.Gen.KernelIdeal.Skeleton
public import Idealize.ShloMosaic.Lib.Pointwise
public import Idealize.ShloMosaic.Lib.IdealHost

@[expose] public section

set_option maxRecDepth 16384

noncomputable section

namespace Cert.KernelIdeal.Row

open Idealize.ShloMosaic Cert.KernelIdeal Cert.KernelIdeal.Gen

/-- The word of the norms' floor. -/
abbrev epsE : EReal := Ideal.ofBits .f32 0x2B8CBCCC#32

/-- The word of the update scale. -/
abbrev lamE : EReal := Ideal.ofBits .f32 0x3DCCCCCD#32

theorem sum16 (f : Fin 16 → EReal) : f 0 + f 1 + f 2 + f 3 + f 4 + f 5 + f 6 + f 7 + f 8 + f 9 + f 10 + f 11 + f 12 + f 13 + f 14
    + f 15 = ∑ b, f b := by
  simp only [Fin.sum_univ_castSucc, Finset.univ_eq_empty, Finset.sum_empty, zero_add]
  rfl

section
variable (v : Vec Ideal S64x16x1024 .f32) (u : Vec Ideal S1024x1024 .f32) (us : Vec Ideal S1024x1 .f32)

/-- A lane's overlap basis brought to norm one. -/
def vvE (m : Fin 64) (b : Fin 16) (d : Fin 1024) : EReal :=
  v (ix3 m b d) * Ideal.div 1 (max (Ideal.sqrt (∑ b' : Fin 16, ∑ d' : Fin 1024, v (ix3 m b' d') * v (ix3 m b' d'))) epsE)

theorem pay2_apply (m : Fin 64) (b : Fin 16) (d : Fin 1024) : k0_pay2 v (ix3 m b d) = vvE v m b d := by
  pointwise [k0_pay2]
  rfl

theorem pay5_apply (a c : Fin 64) : k0_pay5 (k0_pay2 v) (k0_pay3 v) (k0_pay4 v) (ix2 a c)
    = ∑ b : Fin 16, ∑ d : Fin 1024, vvE v a b d * vvE v c b d := by
  pointwise [k0_pay5, k0_pay3, k0_pay4]
  simp only [pay2_apply]
  exact sum16 fun b => ∑ d : Fin 1024, vvE v a b d * vvE v c b d

theorem pay8_apply (j d : Fin 1024) : k0_pay8 (k0_pay6 u) (k0_pay7 u) us (ix2 j d)
    = u (ix2 j d) * Ideal.div (Ideal.tanh (us (ix2 j 0)) * lamE) (max (Ideal.sqrt (∑ d' : Fin 1024, u (ix2 j d') * u (ix2 j d'))) epsE) := by
  pointwise [k0_pay8, k0_pay6, k0_pay7]

end

end Cert.KernelIdeal.Row

end
-- ==== Proof.Sel.lean ====
module

public import Idealize.ShloMosaic.Lib.SortPrefix
public import Idealize.ShloMosaic.PureOps.Ideal.Laws
public import Idealize.ShloMosaic.Lib.Pointwise

@[expose] public section

noncomputable section

namespace Cert.Sel

open Idealize.ShloMosaic

/-- `a` precedes `b` in the row `f`: greater, or equal at a smaller position. -/
def Bt {n : ℕ} (f : Fin n → EReal) (a b : Fin n) : Prop := f b < f a ∨ (f a = f b ∧ a < b)

theorem Bt.le {n : ℕ} {f : Fin n → EReal} {a b : Fin n} (h : Bt f a b) : f b ≤ f a := by
  rcases h with h | ⟨h, _⟩
  · exact h.le
  · exact h.symm.le

/-- Some position precedes all the others. -/
theorem exists_first {n : ℕ} (f : Fin (n + 1) → EReal) : ∃ p, ∀ x, x ≠ p → Bt f p x := by
  classical
  obtain ⟨p0, _, h0⟩ := Finset.exists_max_image (Finset.univ : Finset (Fin (n + 1))) f ⟨0, Finset.mem_univ _⟩
  let S := Finset.univ.filter fun x => f x = f p0
  have hS : S.Nonempty := ⟨p0, by simp [S]⟩
  refine ⟨S.min' hS, fun x hx => ?_⟩
  have hm : f (S.min' hS) = f p0 := by
    have := S.min'_mem hS
    simpa [S] using this
  rcases lt_or_eq_of_le (h0 x (Finset.mem_univ _)) with h | h
  · exact Or.inl (hm ▸ h)
  · refine Or.inr ⟨hm.trans h.symm, ?_⟩
    exact lt_of_le_of_ne (S.min'_le x (by simp [S, h])) (Ne.symm hx)

/-- The first position of the greatest value. -/
def am {n : ℕ} (f : Fin (n + 1) → EReal) : Fin (n + 1) := (exists_first f).choose

theorem am_spec {n : ℕ} (f : Fin (n + 1) → EReal) (x : Fin (n + 1)) (h : x ≠ am f) : Bt f (am f) x :=
  (exists_first f).choose_spec x h

theorem am_max {n : ℕ} (f : Fin (n + 1) → EReal) (x : Fin (n + 1)) : f x ≤ f (am f) := by
  by_cases h : x = am f
  · rw [← h]
  · exact (am_spec f x h).le

open Classical in
/-- `f` with the positions of `S` struck out. -/
def bar {n : ℕ} (f : Fin n → EReal) (S : Finset (Fin n)) : Fin n → EReal := fun x => if x ∈ S then ⊥ else f x

open Classical in
/-- The positions out of play after `k` picks, when those of `S` were out of play before. -/
def tk {n : ℕ} (f : Fin (n + 1) → EReal) (S : Finset (Fin (n + 1))) : ℕ → Finset (Fin (n + 1))
  | 0 => S
  | k + 1 => insert (am (bar f (tk f S k))) (tk f S k)

/-- The pick number `k`. -/
def pick {n : ℕ} (f : Fin (n + 1) → EReal) (S : Finset (Fin (n + 1))) (k : ℕ) : Fin (n + 1) := am (bar f (tk f S k))

theorem mem_tk {n : ℕ} (f : Fin (n + 1) → EReal) (S : Finset (Fin (n + 1))) (k : ℕ) (x : Fin (n + 1)) :
    x ∈ tk f S k ↔ x ∈ S ∨ ∃ j < k, x = pick f S j := by
  induction k with
  | zero => simp [tk]
  | succ k ih =>
    simp only [tk, Finset.mem_insert, ih]
    constructor
    · rintro (h | h | ⟨j, hj, h⟩)
      · exact Or.inr ⟨k, Nat.lt_succ_self k, h⟩
      · exact Or.inl h
      · exact Or.inr ⟨j, hj.trans (Nat.lt_succ_self k), h⟩
    · rintro (h | ⟨j, hj, h⟩)
      · exact Or.inr (Or.inl h)
      · rcases Nat.lt_succ_iff_lt_or_eq.mp hj with hj | rfl
        · exact Or.inr (Or.inr ⟨j, hj, h⟩)
        · exact Or.inl h

/-- With something left in play and nothing in play at the bottom, a pick is in play and precedes the rest in play. -/
theorem pick_step {n : ℕ} (f : Fin (n + 1) → EReal) (T : Finset (Fin (n + 1))) (hf : ∀ x, x ∉ T → f x ≠ ⊥)
    (hT : ∃ x, x ∉ T) : am (bar f T) ∉ T ∧ ∀ x, x ∉ T → x ≠ am (bar f T) → Bt f (am (bar f T)) x := by
  have hp : am (bar f T) ∉ T := by
    intro hp
    obtain ⟨x, hx⟩ := hT
    have h := am_max (bar f T) x
    simp only [bar, if_pos hp, if_neg hx] at h
    exact hf x hx (le_bot_iff.mp h)
  refine ⟨hp, fun x hx hne => ?_⟩
  have h := am_spec (bar f T) x hne
  simpa only [Bt, bar, if_neg hp, if_neg hx] using h

theorem card_tk_le {n : ℕ} (f : Fin (n + 1) → EReal) (S : Finset (Fin (n + 1))) (k : ℕ) :
    (tk f S k).card ≤ S.card + k := by
  classical
  induction k with
  | zero => simp [tk]
  | succ k ih =>
    simp only [tk]
    have := Finset.card_insert_le (am (bar f (tk f S k))) (tk f S k)
    have e : insert (am (bar f (tk f S k))) (tk f S k) = tk f S (k + 1) := rfl
    omega

/-- What a pick is, while something is left. -/
theorem pick_spec {n : ℕ} (f : Fin (n + 1) → EReal) (S : Finset (Fin (n + 1))) (k : ℕ) (hf : ∀ x, x ∉ S → f x ≠ ⊥)
    (hk : S.card + k < n + 1) :
    pick f S k ∉ tk f S k ∧ ∀ x, x ∉ tk f S k → x ≠ pick f S k → Bt f (pick f S k) x := by
  refine pick_step f (tk f S k) (fun x hx => hf x fun h => hx ((mem_tk f S k x).mpr (Or.inl h))) ?_
  by_contra h
  push Not at h
  have : tk f S k = Finset.univ := Finset.eq_univ_iff_forall.mpr h
  have hc := card_tk_le f S k
  rw [this, Finset.card_univ, Fintype.card_fin] at hc
  omega

theorem pick_not_mem {n : ℕ} (f : Fin (n + 1) → EReal) (S : Finset (Fin (n + 1))) (k : ℕ) (hf : ∀ x, x ∉ S → f x ≠ ⊥)
    (hk : S.card + k < n + 1) : pick f S k ∉ S := fun h =>
  (pick_spec f S k hf hk).1 ((mem_tk f S k _).mpr (Or.inl h))

theorem pick_ne {n : ℕ} (f : Fin (n + 1) → EReal) (S : Finset (Fin (n + 1))) (j k : ℕ) (hf : ∀ x, x ∉ S → f x ≠ ⊥)
    (hk : S.card + k < n + 1) (hj : j < k) : pick f S k ≠ pick f S j := fun h =>
  (pick_spec f S k hf hk).1 ((mem_tk f S k _).mpr (Or.inr ⟨j, hj, h⟩))

/-- An earlier pick precedes every position in play that is not picked by then. -/
theorem pick_before {n : ℕ} (f : Fin (n + 1) → EReal) (S : Finset (Fin (n + 1))) (k : ℕ) (hf : ∀ x, x ∉ S → f x ≠ ⊥)
    (hk : S.card + k < n + 1) (x : Fin (n + 1)) (hx : x ∉ S) (hn : ∀ j ≤ k, x ≠ pick f S j) : Bt f (pick f S k) x :=
  (pick_spec f S k hf hk).2 x (fun h => ((mem_tk f S k x).mp h).elim hx fun ⟨j, hj, h⟩ => hn j hj.le h) (hn k le_rfl)

/-! ## The sorted order -/

/-- The strict order of a descending stable sort. -/
def gt {n : ℕ} (f : Fin n → EReal) : Fin n → Fin n → Bool := fun a b => FloatOps.cmpfTotal (F := Ideal) (φ := .f32) .gt (f a) (f b) == 1#1

theorem gt_iff {n : ℕ} (f : Fin n → EReal) (a b : Fin n) : gt f a b = true ↔ f b < f a := by
  unfold gt
  show (Ideal.cmp .ogt (f a) (f b) == 1#1) = true ↔ _
  unfold Ideal.cmp
  by_cases h : f b < f a <;> simp [h]

/-- The sort's position `k`. -/
def so {n : ℕ} (f : Fin n → EReal) (k : Fin n) : Fin n := sortedFrom (gt f) k

theorem so_inj {n : ℕ} (f : Fin n → EReal) : Function.Injective (so f) := sortedFrom_injective _

theorem so_surj {n : ℕ} (f : Fin n → EReal) : Function.Surjective (so f) := sortedFrom_surjective _

theorem Bt.trans {n : ℕ} {f : Fin n → EReal} {a b c : Fin n} (h : Bt f a b) (h' : Bt f b c) : Bt f a c := by
  rcases h with h | ⟨h, l⟩ <;> rcases h' with h' | ⟨h', l'⟩
  · exact Or.inl (h'.trans h)
  · exact Or.inl (h' ▸ h)
  · exact Or.inl (h ▸ h')
  · exact Or.inr ⟨h.trans h', l.trans l'⟩

theorem Bt.asymm {n : ℕ} {f : Fin n → EReal} {a b : Fin n} (h : Bt f a b) (h' : Bt f b a) : False := by
  rcases h.trans h' with h | ⟨_, h⟩ <;> exact lt_irrefl _ h

/-- Putting in an element smaller than all those of an ordered list keeps it ordered. -/
theorem ordered_insert {n : ℕ} (f : Fin n → EReal) (a : Fin n) (l : List (Fin n)) (ha : ∀ b ∈ l, a < b)
    (hl : l.Pairwise (Bt f)) : (insertBefore (gt f) a l).Pairwise (Bt f) := by
  induction l with
  | nil => exact List.pairwise_singleton _ _
  | cons b l ih =>
    rw [List.pairwise_cons] at hl
    unfold insertBefore
    split
    · rename_i h
      refine List.pairwise_cons.mpr ⟨fun c hc => ?_, ih (fun x hx => ha x (List.mem_cons_of_mem _ hx)) hl.2⟩
      rcases List.mem_cons.mp ((perm_insertBefore (gt f) a l).mem_iff.mp hc) with rfl | hc'
      · exact Or.inl ((gt_iff f _ _).mp h)
      · exact hl.1 c hc'
    · rename_i h
      have hab : Bt f a b := by
        have h1 : ¬ f a < f b := fun h2 => h ((gt_iff f _ _).mpr h2)
        rcases lt_or_eq_of_le (not_lt.mp h1) with h2 | h2
        · exact Or.inl h2
        · exact Or.inr ⟨h2.symm, ha b List.mem_cons_self⟩
      refine List.pairwise_cons.mpr ⟨fun c hc => ?_, List.pairwise_cons.mpr hl⟩
      rcases List.mem_cons.mp hc with rfl | hc'
      · exact hab
      · exact hab.trans (hl.1 c hc')

theorem ordered_sort {n : ℕ} (f : Fin n → EReal) (l : List (Fin n)) (h : l.Pairwise (· < ·)) :
    (stableSort (gt f) l).Pairwise (Bt f) := by
  induction l with
  | nil => exact List.Pairwise.nil
  | cons a l ih =>
    rw [List.pairwise_cons] at h
    unfold stableSort
    refine ordered_insert f a _ (fun b hb => h.1 b ?_) (ih h.2)
    exact (perm_stableSort (gt f) l).mem_iff.mp hb

/-- Earlier positions of the sort precede later ones. -/
theorem so_before {n : ℕ} (f : Fin n → EReal) (i j : Fin n) (h : i < j) : Bt f (so f i) (so f j) := by
  have hp : ∀ a b : Fin (sortPositions n (gt f)).length, a < b →
      Bt f ((sortPositions n (gt f)).get a) ((sortPositions n (gt f)).get b) :=
    List.pairwise_iff_get.mp (ordered_sort f (List.finRange n) (List.pairwise_lt_finRange n))
  unfold so sortedFrom
  exact hp _ _ (by simp only [Fin.lt_def, Fin.val_cast]; exact h)

/-- The picks are the sorted order. -/
theorem pick_eq_so {n : ℕ} (f : Fin (n + 1) → EReal) (hf : ∀ x, f x ≠ ⊥) (k : ℕ) (hk : k < n + 1) :
    pick f ∅ k = so f ⟨k, hk⟩ := by
  induction k using Nat.strong_induction_on with
  | _ k ih =>
    have hc : (∅ : Finset (Fin (n + 1))).card + k < n + 1 := by simpa using hk
    obtain ⟨i, hi⟩ := so_surj f (pick f ∅ k)
    by_contra hne
    have hik : i ≠ ⟨k, hk⟩ := fun h => hne (by rw [← hi, h])
    have hge : k < i.val := by
      rcases lt_trichotomy i.val k with h | h | h
      · exact absurd (hi.symm.trans (ih i.val h (h.trans hk)).symm) (pick_ne f ∅ i.val k (fun x _ => hf x) hc h)
      · exact absurd (Fin.ext h) hik
      · exact h
    have h1 : Bt f (so f ⟨k, hk⟩) (pick f ∅ k) := hi ▸ so_before f ⟨k, hk⟩ i hge
    refine (Bt.asymm h1 (pick_before f ∅ k (fun x _ => hf x) hc (so f ⟨k, hk⟩) (by simp) fun j hj h => ?_))
    rcases lt_or_eq_of_le hj with hj | rfl
    · rw [ih j hj (hj.trans hk)] at h
      have := congrArg Fin.val (so_inj f h)
      simp only at this
      omega
    · exact hne h.symm

/-- Picking among the positions `p i` is sorting the values there, when the first `k + 2` of them are told apart. -/
theorem pick_eq_so_sub {n m : ℕ} (f : Fin (n + 1) → EReal) (p : Fin m → Fin (n + 1)) (hp : Function.Injective p)
    (S : Finset (Fin (n + 1))) (hS : ∀ x, x ∉ S ↔ ∃ i, p i = x) (hf : ∀ i, f (p i) ≠ ⊥) (k : ℕ) (hk : k + 1 < m)
    (hd : ∀ j (hj : j ≤ k), f (p (so (fun i => f (p i)) ⟨j + 1, by omega⟩)) < f (p (so (fun i => f (p i)) ⟨j, by omega⟩))) :
    pick f S k = p (so (fun i => f (p i)) ⟨k, by omega⟩) := by
  classical
  have hfS : ∀ x, x ∉ S → f x ≠ ⊥ := fun x hx => by
    obtain ⟨i, rfl⟩ := (hS x).mp hx
    exact hf i
  have hcard : S.card + m = n + 1 := by
    have h1 : Sᶜ = Finset.univ.image p := by
      ext x
      simp only [Finset.mem_compl, hS, Finset.mem_image, Finset.mem_univ, true_and]
    have h2 : (Finset.univ.image p).card = m := by
      rw [Finset.card_image_of_injective _ hp, Finset.card_univ, Fintype.card_fin]
    have h3 := Finset.card_add_card_compl S
    rw [h1, h2, Fintype.card_fin] at h3
    exact h3
  induction k using Nat.strong_induction_on with
  | _ k ih =>
    have hc : S.card + k < n + 1 := by omega
    obtain ⟨i', hi'⟩ := (hS _).mp (pick_not_mem f S k hfS hc)
    obtain ⟨i, rfl⟩ := so_surj (fun i => f (p i)) i'
    by_contra hne
    have hprev : ∀ j (hj : j < k), pick f S j = p (so (fun i => f (p i)) ⟨j, by omega⟩) := fun j hj =>
      ih j hj (by omega) (fun j' hj' => hd j' (by omega))
    have hik : i.val ≠ k := fun h => hne (by rw [← hi']; congr 2; exact Fin.ext h)
    have hge : k < i.val := by
      rcases lt_trichotomy i.val k with h | h | h
      · exact absurd (hi'.symm.trans (hprev i.val h).symm) (pick_ne f S i.val k hfS hc h)
      · exact absurd h hik
      · exact h
    have h1 := pick_before f S k hfS hc (p (so (fun i => f (p i)) ⟨k, by omega⟩)) (fun h => (hS _).mpr ⟨_, rfl⟩ h)
      (fun j hj h => by
        rcases lt_or_eq_of_le hj with hj | rfl
        · rw [hprev j hj] at h
          have := congrArg Fin.val (so_inj _ (hp h))
          simp only at this
          omega
        · exact hne h.symm)
    have h2 := hd k le_rfl
    have h3 : f (p (so (fun i => f (p i)) i)) ≤ f (p (so (fun i => f (p i)) ⟨k + 1, by omega⟩)) := by
      rcases Nat.lt_or_eq_of_le (Nat.succ_le_of_lt hge) with h | h
      · exact (so_before (fun i => f (p i)) ⟨k + 1, by omega⟩ i h).le
      · have : i = ⟨k + 1, by omega⟩ := Fin.ext h.symm
        rw [this]
    have h4 := h1.le
    rw [← hi'] at h4
    exact absurd (h4.trans h3) (not_le.mpr h2)

end Cert.Sel

end
-- ==== Proof.KSel.lean ====
module

public import proofs.«01_k».proof.Proof.Sel
public import proofs.«01_k».proof.Proof.Gen.KernelIdeal.Skeleton

@[expose] public section

set_option maxRecDepth 16384

noncomputable section

namespace Cert.KernelIdeal.Row

open Idealize.ShloMosaic Cert.KernelIdeal Cert.KernelIdeal.Gen Cert.Sel

/-- The row `n` of a block. -/
abbrev row (v : FVec Ideal S512x64 .f32) (n : Fin 512) : Fin 64 → EReal := fun x => v (ix2 n x)

theorem getD_min (s : Finset ℕ) (a : ℕ) (ha : a ∈ s) (h : ∀ b ∈ s, a ≤ b) : Option.getD s.min 0 = a := by
  have hm : s.min = ((a : ℕ) : WithTop ℕ) :=
    le_antisymm (Finset.min_le ha) (Finset.le_min fun k hk => WithTop.coe_le_coe.mpr (h k hk))
  exact (congrArg (fun o : WithTop ℕ => Option.getD o 0) hm).trans rfl

theorem arg_apply (v : FVec Ideal S512x64 .f32) (n : Fin 512) :
    (reduceIndex .argMax 1 S512 v reduces_S512x64_S512) (ix1 n) = BitVec.ofNat 32 (am (row v n)).val := by
  have hd : ∀ i : S512x64.Idx, reduces_S512x64_S512.drop i = ix1 n ↔ i 0 = n := by
    intro i
    constructor
    · intro h
      have := congrFun h 0
      exact this
    · intro h
      funext a
      match a with
      | ⟨0, _⟩ => exact h
  have hi : ∀ i : S512x64.Idx, i 0 = n → i = ix2 n (i 1) := by
    intro i h
    funext a
    match a with
    | ⟨0, _⟩ => exact h
    | ⟨1, _⟩ => rfl
  show Ideal.reduceIndex .argMax 1 reduces_S512x64_S512 v (ix1 n) = _
  unfold Ideal.reduceIndex
  dsimp only
  refine congrArg (BitVec.ofNat 32) (getD_min _ _ ?_ fun k hk => ?_)
  · refine Finset.mem_image.mpr ⟨ix2 n (am (row v n)), ?_, rfl⟩
    simp only [Finset.mem_filter, Finset.mem_univ, true_and, hd, if_true, not_lt]
    refine ⟨rfl, fun i' h' => ?_⟩
    rw [hi i' h']
    exact am_max (row v n) _
  · obtain ⟨i, hie, rfl⟩ := Finset.mem_image.mp hk
    simp only [Finset.mem_filter, Finset.mem_univ, true_and, hd, if_true, not_lt] at hie
    obtain ⟨h0, h1⟩ := hie
    have h1 := h1 (ix2 n (am (row v n))) rfl
    rw [hi i h0] at h1
    by_cases he : (i 1 : Fin 64) = am (row v n)
    · exact (congrArg Fin.val he).symm.le
    · rcases am_spec (row v n) (i 1) he with h | ⟨_, h⟩
      · exact absurd h1 (not_le.mpr h)
      · exact h.le

theorem sel_apply (v : FVec Ideal S512x64 .f32) (n : Fin 512) (x : Fin 64) :
    (cmpi .eq (iota .tc S512x64 32 [1] iota_S512x64_d1_w32) (broadcastTo S512x64 (shapeCast S512x1
      (reduceIndex .argMax 1 S512 v reduces_S512x64_S512) shapeCasts_S512_S512x1) broadcasts_S512x1_S512x64)) (ix2 n x)
      = if x = am (row v n) then 1#1 else 0#1 := by
  pointwise []
  rw [arg_apply]
  unfold IntOp.cmpi
  by_cases h : x = am (row v n)
  · simp [h]
  · have hne : BitVec.ofNat 32 x.val ≠ BitVec.ofNat 32 (am (row v n)).val := by
      intro he
      have := congrArg BitVec.toNat he
      simp only [BitVec.toNat_ofNat] at this
      have h1 := x.isLt
      have h2 := (am (row v n)).isLt
      exact h (Fin.ext (by omega))
    rw [if_neg h]
    show BitVec.ofBool (BitVec.ofNat 32 x.val == BitVec.ofNat 32 (am (row v n)).val) = 0#1
    rw [beq_eq_false_iff_ne.mpr hne]
    rfl

/-- The word of minus infinity. -/
theorem ninf : (Scalar.ofBits (F := Ideal) .f32 0xFF800000#32 : Ideal .f32) = (⊥ : EReal) := by
  rw [Ideal.ofBits_def]
  simp [Ideal.ofBits, Ideal.ieee]

/-- The mask of the first greatest entry of each row. -/
def selB (v : FVec Ideal S512x64 .f32) : IVec S512x64 1 :=
  cmpi .eq (iota .tc S512x64 32 [1] iota_S512x64_d1_w32) (broadcastTo S512x64 (shapeCast S512x1
      (reduceIndex .argMax 1 S512 v reduces_S512x64_S512) shapeCasts_S512_S512x1) broadcasts_S512x1_S512x64)

/-- A block with the first greatest entry of each row struck out. -/
def strike (v : FVec Ideal S512x64 .f32) : FVec Ideal S512x64 .f32 :=
  select (selB v) (broadcast S512x64 (Scalar.ofBits .f32 0xFF800000#32)) v

theorem row_strike (v : FVec Ideal S512x64 .f32) (n : Fin 512) (f : Fin 64 → EReal) (S : Finset (Fin 64)) (k : ℕ)
    (h : row v n = bar f (tk f S k)) : row (strike v) n = bar f (tk f S (k + 1)) := by
  classical
  funext x
  show (if selB v (ix2 n x) = 1#1 then (Scalar.ofBits (F := Ideal) .f32 0xFF800000#32 : Ideal .f32) else row v n x) = _
  rw [show selB v (ix2 n x) = _ from sel_apply v n x, ninf, h]
  show (if (if x = am (bar f (tk f S k)) then 1#1 else 0#1) = 1#1 then ⊥ else (if x ∈ tk f S k then ⊥ else f x))
    = if x ∈ insert (am (bar f (tk f S k))) (tk f S k) then ⊥ else f x
  generalize am (bar f (tk f S k)) = P
  by_cases hx : x = P <;> simp [hx]

/-- A mask bit joined with the mask of the next pick. -/
theorem or_sel (v : FVec Ideal S512x64 .f32) (n : Fin 512) (f : Fin 64 → EReal) (S : Finset (Fin 64)) (k : ℕ)
    (h : row v n = bar f (tk f S k)) (b : IVec S512x64 1) (T : Finset (Fin 64))
    (hb : ∀ x, b (ix2 n x) = if x ∈ T then 1#1 else 0#1) (x : Fin 64) :
    (ori b (selB v)) (ix2 n x) = if x ∈ insert (pick f S k) T then 1#1 else 0#1 := by
  show b (ix2 n x) ||| selB v (ix2 n x) = _
  rw [show selB v (ix2 n x) = _ from sel_apply v n x, hb, h]
  show _ ||| (if x = pick f S k then 1#1 else 0#1) = _
  generalize pick f S k = P
  simp only [Finset.mem_insert]
  split_ifs <;> first | rfl | (exfalso; tauto)

theorem cmpi_lane {n : ℕ} (a b : Fin n) (hn : n ≤ 2 ^ 32 := by norm_num) :
    IntOp.cmpi .eq (BitVec.ofNat 32 a.val) (BitVec.ofNat 32 b.val) = if a = b then 1#1 else 0#1 := by
  by_cases h : a = b
  · simp [h, IntOp.cmpi]
  · have hne : BitVec.ofNat 32 a.val ≠ BitVec.ofNat 32 b.val := by
      intro he
      have := congrArg BitVec.toNat he
      simp only [BitVec.toNat_ofNat] at this
      have h1 := a.isLt
      have h2 := b.isLt
      exact h (Fin.ext (by omega))
    rw [if_neg h]
    show BitVec.ofBool (BitVec.ofNat 32 a.val == BitVec.ofNat 32 b.val) = 0#1
    rw [beq_eq_false_iff_ne.mpr hne]
    rfl

theorem rem_lane : ∀ j : Fin 1024, IntOp.remsi ArithUnit.vector (BitVec.ofNat 32 j.val)
    (Scalar.select (Scalar.cmpi CmpIPredicate.eq 64#32 0#32) 1#32 64#32) = BitVec.ofNat 32 (j.val % 64) := by
  decide +kernel

theorem fix_lane : ∀ j : Fin 64, Scalar.select
    (IntOp.andi (IntOp.xori (IntOp.cmpi CmpIPredicate.slt (BitVec.ofNat 32 j.val) 0#32)
      (Scalar.cmpi CmpIPredicate.slt 64#32 0#32)) (IntOp.cmpi CmpIPredicate.ne (BitVec.ofNat 32 j.val) 0#32))
    (IntOp.addi (BitVec.ofNat 32 j.val) 64#32) (BitVec.ofNat 32 j.val) = BitVec.ofNat 32 j.val := by
  decide +kernel

theorem sitofp_ite (p : Prop) [Decidable p] :
    FloatOps.sitofp (F := Ideal) .f32 (BitVec.zeroExtend 32 (if p then 1#1 else 0#1)) = if p then (1 : EReal) else 0 := by
  split_ifs
  · show (((BitVec.zeroExtend 32 1#1).toInt : ℝ) : EReal) = 1
    norm_num
  · show (((BitVec.zeroExtend 32 0#1).toInt : ℝ) : EReal) = 0
    norm_num

theorem select_ite {α : Type} (p : Prop) [Decidable p] (a b : α) :
    Scalar.select (if p then 1#1 else 0#1) a b = if p then a else b := by
  by_cases h : p <;> simp [h, Scalar.select]

/-- The energies' square roots on the drafted lanes, nought elsewhere. -/
def edE (E : Fin 64 → EReal) (m : Fin 64) : EReal := if m ∈ tk E ∅ 4 then Ideal.sqrt (E m) else 0

/-- The corrected score of a lane. -/
def corrE (E : Fin 64 → EReal) (G : Fin 64 → Fin 64 → EReal) (m : Fin 64) : EReal :=
  E m - ((∑ p, edE E p * G p m) - edE E m * G m m) * edE E m

/-- The two lanes chosen in the end. -/
def finE (E : Fin 64 → EReal) (G : Fin 64 → Fin 64 → EReal) : Finset (Fin 64) :=
  {pick (corrE E G) (tk E ∅ 4)ᶜ 0, pick (corrE E G) (tk E ∅ 4)ᶜ 1}

/-- The mask of the two lanes. -/
def fmE (E : Fin 64 → EReal) (G : Fin 64 → Fin 64 → EReal) (m : Fin 64) : EReal := if m ∈ finE E G then 1 else 0

/-- The mask of the four drafted lanes, over the energies `e`. -/
def draftMask (e : FVec Ideal S512x64 .f32) : IVec S512x64 1 :=
  ori (ori (ori (ori (broadcast S512x64 0#1) (selB e)) (selB (strike e))) (selB (strike (strike e))))
    (selB (strike (strike (strike e))))

theorem draftMask_apply (e : FVec Ideal S512x64 .f32) (n : Fin 512) (x : Fin 64) :
    draftMask e (ix2 n x) = if x ∈ tk (row e n) ∅ 4 then 1#1 else 0#1 := by
  classical
  have h0 : row e n = bar (row e n) (tk (row e n) ∅ 0) := by
    funext y
    simp [bar, tk]
  have h1 := row_strike _ n _ _ _ h0
  have h2 := row_strike _ n _ _ _ h1
  have h3 := row_strike _ n _ _ _ h2
  have b0 : ∀ y, (broadcast S512x64 0#1 : IVec S512x64 1) (ix2 n y) = if y ∈ tk (row e n) ∅ 0 then 1#1 else 0#1 := by
    intro y
    simp [tk]
    rfl
  exact or_sel _ n _ _ _ h3 _ _ (or_sel _ n _ _ _ h2 _ _ (or_sel _ n _ _ _ h1 _ _ (or_sel _ n _ _ _ h0 _ _ b0))) x

theorem pay18_eq (v3 : Vec Ideal S512x1024 .f32) (v5 : Vec Ideal S1024x1024 .f32) :
    k0_pay18 (iota .tc S512x64 32 [1] iota_S512x64_d1_w32) (k0_pay15 v3 v5) (k0_pay16 v3 v5) (k0_pay17 v3 v5)
      = draftMask (k0_pay13 v3 v5) := rfl

section
variable (v3 : Vec Ideal S512x1024 .f32) (v5 : Vec Ideal S1024x1024 .f32) (g : Vec Ideal S64x64 .f32)

/-- The lane numbers of a block. -/
abbrev lanes : IVec S512x64 32 := iota .tc S512x64 32 [1] iota_S512x64_d1_w32

/-- The matrix of overlaps, by coordinates. -/
abbrev gm (g : Vec Ideal S64x64 .f32) (a b : Fin 64) : EReal := g (ix2 a b)

theorem pay19_apply (n : Fin 512) (x : Fin 64) :
    k0_pay19 (k0_pay13 v3 v5) lanes (k0_pay15 v3 v5) (k0_pay16 v3 v5) (k0_pay17 v3 v5) (ix2 n x)
      = edE (row (k0_pay13 v3 v5) n) x := by
  unfold k0_pay19
  rw [pay18_eq]
  show (if draftMask (k0_pay13 v3 v5) (ix2 n x) = 1#1 then Ideal.sqrt (k0_pay13 v3 v5 (ix2 n x)) else (Scalar.ofBits (F := Ideal) .f32 0x00000000#32 : Ideal .f32)) = _
  rw [draftMask_apply]
  pointwise []
  unfold edE
  split_ifs <;> first | rfl | (exfalso; tauto)

theorem pay20_apply (x : Fin 64) : k0_pay20 g (ix2 0 x) = gm g x x := by
  pointwise [k0_pay20]
  refine (Finset.sum_congr rfl fun y _ => (congrArg (Scalar.select · (g (ix2 y x)) 0)
    (cmpi_lane (n := 64) y x)).trans (select_ite (y = x) _ _)).trans ?_
  rw [Finset.sum_ite_eq' Finset.univ x fun y => g (ix2 y x)]
  simp

theorem pay21_apply (n : Fin 512) (x : Fin 64) :
    k0_pay21 (k0_pay13 v3 v5) lanes (k0_pay15 v3 v5) (k0_pay16 v3 v5) (k0_pay17 v3 v5) g (ix2 n x)
      = bar (corrE (row (k0_pay13 v3 v5) n) (gm g)) (tk (row (k0_pay13 v3 v5) n) ∅ 4)ᶜ x := by
  unfold k0_pay21
  rw [pay18_eq]
  pointwise []
  simp only [pay19_apply, pay20_apply, draftMask_apply, select_ite]
  rw [show Ideal.ofBits .f32 4286578688#32 = ⊥ from ninf]
  unfold bar corrE
  simp only [Finset.mem_compl]
  split_ifs <;> first | rfl | (exfalso; tauto)

/-- The corrected scores of a block, bottom off the drafted lanes. -/
abbrev corrV : FVec Ideal S512x64 .f32 :=
  k0_pay21 (k0_pay13 v3 v5) lanes (k0_pay15 v3 v5) (k0_pay16 v3 v5) (k0_pay17 v3 v5) g

/-- The mask of the first final lane. -/
abbrev fin1 : IVec S512x64 1 :=
  k0_pay23 (k0_pay13 v3 v5) lanes (k0_pay15 v3 v5) (k0_pay16 v3 v5) (k0_pay17 v3 v5) g

/-- The second final lane of each row. -/
abbrev fin2 : IVec S512x1 32 :=
  k0_pay24 (k0_pay13 v3 v5) lanes (k0_pay15 v3 v5) (k0_pay16 v3 v5) (k0_pay17 v3 v5) g

theorem pay25_eq : (k0_pay25 lanes (fin1 v3 v5 g) (fin2 v3 v5 g) : FVec Ideal S512x64 .f32)
    = sitofp .f32 (extui 32 (ori (ori (broadcast S512x64 0#1) (selB (corrV v3 v5 g))) (selB (strike (corrV v3 v5 g)))) natLt_1_32) := rfl

theorem pay25_apply (n : Fin 512) (x : Fin 64) :
    (k0_pay25 lanes (fin1 v3 v5 g) (fin2 v3 v5 g) : FVec Ideal S512x64 .f32) (ix2 n x)
      = fmE (row (k0_pay13 v3 v5) n) (gm g) x := by
  classical
  have h0 : row (corrV v3 v5 g) n = bar (corrE (row (k0_pay13 v3 v5) n) (gm g))
      (tk (corrE (row (k0_pay13 v3 v5) n) (gm g)) (tk (row (k0_pay13 v3 v5) n) ∅ 4)ᶜ 0) := by
    funext y
    exact pay21_apply v3 v5 g n y
  have h1 := row_strike _ n _ _ _ h0
  have b0 : ∀ y, (broadcast S512x64 0#1 : IVec S512x64 1) (ix2 n y) = if y ∈ (∅ : Finset (Fin 64)) then 1#1 else 0#1 := by
    intro y
    simp
    rfl
  have h := or_sel _ n _ _ _ h1 _ _ (or_sel _ n _ _ _ h0 _ _ b0) x
  rw [pay25_eq]
  show FloatOps.sitofp (F := Ideal) .f32 (BitVec.zeroExtend 32 ((ori (ori (broadcast S512x64 0#1) (selB (corrV v3 v5 g))) (selB (strike (corrV v3 v5 g)))) (ix2 n x))) = _
  rw [h]
  unfold fmE finE
  simp only [Finset.mem_insert, Finset.mem_singleton, Finset.notMem_empty, or_false]
  rw [sitofp_ite]
  exact if_congr or_comm rfl rfl

theorem pay26_apply (raw : Vec Ideal S1x1 .f32) :
    k0_pay26 (k0_pay13 v3 v5) lanes (fin1 v3 v5 g) (fin2 v3 v5 g) raw (ix2 0 0) = raw (ix2 0 0)
      + ∑ n : Fin 512, ∑ x : Fin 64, k0_pay13 v3 v5 (ix2 n x) * fmE (row (k0_pay13 v3 v5) n) (gm g) x := by
  pointwise [k0_pay26]
  simp only [pay25_apply]

theorem pay27_apply (ov : Vec Ideal S1x1 .f32) :
    k0_pay27 lanes (k0_pay19 (k0_pay13 v3 v5) lanes (k0_pay15 v3 v5) (k0_pay16 v3 v5) (k0_pay17 v3 v5)) g (k0_pay20 g)
      (fin1 v3 v5 g) (fin2 v3 v5 g) ov (ix2 0 0) = ov (ix2 0 0)
      + ((∑ n : Fin 512, ∑ x : Fin 64, (∑ p : Fin 64, (edE (row (k0_pay13 v3 v5) n) p * fmE (row (k0_pay13 v3 v5) n) (gm g) p) * gm g p x)
          * (edE (row (k0_pay13 v3 v5) n) x * fmE (row (k0_pay13 v3 v5) n) (gm g) x))
        - ∑ n : Fin 512, ∑ x : Fin 64, (edE (row (k0_pay13 v3 v5) n) x * fmE (row (k0_pay13 v3 v5) n) (gm g) x) * gm g x x
          * (edE (row (k0_pay13 v3 v5) n) x * fmE (row (k0_pay13 v3 v5) n) (gm g) x)) := by
  pointwise [k0_pay27]
  simp only [pay25_apply, pay19_apply, pay20_apply]

theorem pay28_apply (a : Fin 64) (j : Fin 1024) : k0_pay28 (ix2 a j) = BitVec.ofNat 32 (j.val % 64) := by
  pointwise [k0_pay28]
  exact rem_lane j

theorem pay1_apply (v4 v7 : FVec Ideal S512x1024 .f32) (fm : FVec Ideal S512x64 .f32) (u : Vec Ideal S1024x1024 .f32)
    (n : Fin 512) (d : Fin 1024) :
    k0_pay1 v4 v7 fm (iota .tc S64x1024 32 [0] iota_S64x1024_d0_w32) 64#32 k0_pay28 u (ix2 n d)
      = v4 (ix2 n d) + ∑ j : Fin 1024, (v7 (ix2 n j) * fm (ix2 n ⟨j.val % 64, Nat.mod_lt _ (by norm_num)⟩)) * u (ix2 j d) := by
  pointwise [k0_pay1, pay28_apply]
  refine congrArg (v4 (ix2 n d) + ·) (Finset.sum_congr rfl fun j _ => ?_)
  refine congrArg (v7 (ix2 n j) * · * u (ix2 j d)) ?_
  have hj := Nat.mod_lt j.val (show 0 < 64 by norm_num)
  rw [fix_lane ⟨j.val % 64, hj⟩]
  simp only [cmpi_lane (n := 64) _ ⟨j.val % 64, hj⟩]
  refine (Finset.sum_congr rfl fun a _ => congrArg (fm (ix2 n a) * ·) (sitofp_ite (a = ⟨j.val % 64, hj⟩))).trans ?_
  rw [Finset.sum_eq_single ⟨j.val % 64, hj⟩]
  · simp
  · intro b _ hb
    simp [hb]
  · simp

theorem pay12_apply (n : Fin 512) (j : Fin 1024) :
    k0_pay12 v3 v5 (ix2 n j) = ∑ d : Fin 1024, v3 (ix2 n d) * v5 (ix2 d j) := by
  pointwise [k0_pay12, k0_pay11]

theorem pay13_apply (n : Fin 512) (x : Fin 64) : k0_pay13 v3 v5 (ix2 n x) =
    ∑ b : Fin 16, k0_pay12 v3 v5 (ix2 n ⟨b.val * 64 + x.val, by omega⟩) * k0_pay12 v3 v5 (ix2 n ⟨b.val * 64 + x.val, by omega⟩) := by
  pointwise [k0_pay13]
  set q : ℕ → EReal := fun k => if h : k < 1024 then k0_pay12 v3 v5 (ix2 n ⟨k, h⟩) * k0_pay12 v3 v5 (ix2 n ⟨k, h⟩) else 0 with hq
  have e : ∀ (k : ℕ) (h : k < 1024), k0_pay12 v3 v5 (ix2 n ⟨k, h⟩) * k0_pay12 v3 v5 (ix2 n ⟨k, h⟩) = q k := by
    intro k h
    simp only [hq, dif_pos h]
  simp only [e]
  rw [Fin.sum_univ_eq_sum_range (fun b => q (b * 64 + x.val)) 16]
  simp only [Finset.sum_range_succ, Finset.sum_range_zero]
  simp only [show 0 * 64 + x.val = x.val by omega, show 1 * 64 + x.val = 64 + x.val by omega, show 2 * 64 + x.val = 128 + x.val by omega,
    show 3 * 64 + x.val = 128 + (64 + x.val) by omega, show 4 * 64 + x.val = 256 + x.val by omega,
    show 5 * 64 + x.val = 256 + (64 + x.val) by omega, show 6 * 64 + x.val = 384 + x.val by omega,
    show 7 * 64 + x.val = 384 + (64 + x.val) by omega, show 8 * 64 + x.val = 512 + x.val by omega,
    show 9 * 64 + x.val = 512 + (64 + x.val) by omega, show 10 * 64 + x.val = 640 + x.val by omega,
    show 11 * 64 + x.val = 640 + (64 + x.val) by omega, show 12 * 64 + x.val = 768 + x.val by omega,
    show 13 * 64 + x.val = 768 + (64 + x.val) by omega, show 14 * 64 + x.val = 896 + x.val by omega,
    show 15 * 64 + x.val = 896 + (64 + x.val) by omega]
  abel

end

end Cert.KernelIdeal.Row

end
-- ==== Proof.KRead.lean ====
module

public import proofs.«01_k».proof.Proof.KHost
public import proofs.«01_k».proof.Proof.KPrep
public import proofs.«01_k».proof.Proof.KSel

@[expose] public section

set_option maxRecDepth 16384

noncomputable section

namespace Cert.KernelIdeal.Read

open Idealize.ShloMosaic Idealize.ShloMosaic.TcCoe Idealize.SL.Sem
open Cert.KernelIdeal Cert.KernelIdeal.Gen Cert.KernelIdeal.Grid Cert.KernelIdeal.Host0 Cert.KernelIdeal.Row Cert.Spec

variable (m : (ℓ : Loc nD τ sig) → Buf (Elt Ideal) ℓ)

/-- Row `n` of block `t`. -/
abbrev gl (t : Fin 4) (n : Fin 512) : Fin 2048 := ⟨512 * t.val + n.val, by have := t.isLt; have := n.isLt; omega⟩

theorem sum_block {M : Type} [AddCommMonoid M] (f : Fin 2048 → M) : ∑ t : Fin 4, ∑ n : Fin 512, f (gl t n) = ∑ n, f n := by
  rw [← Finset.sum_product']
  refine Fintype.sum_equiv (finProdFinEquiv : Fin 4 × Fin 512 ≃ Fin 2048) _ _ fun p => congrArg f (Fin.ext ?_)
  show 512 * p.1.val + p.2.val = p.2.val + 512 * p.1.val
  omega

/-- Column of expert `x` and direction `b`. -/
abbrev cj (b : Fin 16) (x : Fin 64) : Fin 1024 := ⟨b.val * 64 + x.val, by have := b.isLt; have := x.isLt; omega⟩

theorem sum_cols {M : Type} [AddCommMonoid M] (f : Fin 1024 → M) : ∑ j, f j = ∑ b : Fin 16, ∑ x : Fin 64, f (cj b x) := by
  rw [← Finset.sum_product']
  symm
  refine Fintype.sum_equiv (finProdFinEquiv : Fin 16 × Fin 64 ≃ Fin 1024) _ _ fun p => congrArg f (Fin.ext ?_)
  show p.1.val * 64 + p.2.val = p.2.val + 64 * p.1.val
  omega

theorem cx_cj (b : Fin 16) (x : Fin 64) : cx (cj b x) = x := Fin.ext (by have := x.isLt; show (b.val * 64 + x.val) % 64 = x.val; omega)
theorem cb_cj (b : Fin 16) (x : Fin 64) : cb (cj b x) = b := Fin.ext (by have := x.isLt; show (b.val * 64 + x.val) / 64 = b.val; omega)

theorem xblk_apply (c : Dev nD) (t : Fin 4) (n : Fin 512) (d : Fin 1024) :
    xblk (A0 m c) t (ix2 n d) = a0 m c (ix3 0 (gl t n) d) := A0_apply m c (gl t n) d

theorem read_eq (c : Dev nD) (t : Fin 4) (n : Fin 512) (j : Fin 1024) :
    k0_pay12 (xblk (A0 m c) t) (A1 m c) (ix2 n j) = rr (a0 m c) (a1 m c) (gl t n) (cx j) (cb j) := by
  rw [pay12_apply]
  unfold rr
  exact Finset.sum_congr rfl fun d _ => by rw [xblk_apply, A1_apply]

theorem row_eq (c : Dev nD) (t : Fin 4) (n : Fin 512) (x : Fin 64) :
    k0_pay13 (xblk (A0 m c) t) (A1 m c) (ix2 n x) = en (a0 m c) (a1 m c) (gl t n) x := by
  rw [pay13_apply]
  unfold en
  exact Finset.sum_congr rfl fun b _ => by
    have h := read_eq m c t n (cj b x)
    rw [cx_cj, cb_cj] at h
    rw [h]

theorem row_fun (c : Dev nD) (t : Fin 4) (n : Fin 512) :
    row (k0_pay13 (xblk (A0 m c) t) (A1 m c)) n = en (a0 m c) (a1 m c) (gl t n) := funext fun x => row_eq m c t n x

theorem vv_eq (c : Dev nD) (x : Fin 64) (b : Fin 16) (d : Fin 1024) :
    vvE (A2 m c) x b d = vn (a1 m c) d x b * Ideal.div 1 (gn (a1 m c) x) := by
  have h : ∀ b d, A2 m c (ix3 x b d) = vn (a1 m c) d x b := fun b d => A2_apply m c x b d
  have hs : (∑ b', ∑ d', A2 m c (ix3 x b' d') * A2 m c (ix3 x b' d')) = ∑ b', ∑ d', vn (a1 m c) d' x b' * vn (a1 m c) d' x b' :=
    Finset.sum_congr rfl fun b' _ => Finset.sum_congr rfl fun d' _ => congrArg₂ (· * ·) (h b' d') (h b' d')
  unfold vvE gn
  rw [hs, h b d]

theorem gm_eq (c : Dev nD) : gm (gv m c) = gg (a1 m c) := by
  funext x y
  show k0_pay5 _ _ _ (ix2 x y) = _
  rw [pay5_apply]
  exact Finset.sum_congr rfl fun b _ => Finset.sum_congr rfl fun d _ => congrArg₂ (· * ·) (vv_eq m c x b d) (vv_eq m c y b d)

theorem uv_apply (c : Dev nD) (j d : Fin 1024) : uv m c (ix2 j d) = ue (a2 m c) (a3 m c) (cx j) d (cb j) := by
  show k0_pay8 _ _ _ (ix2 j d) = _
  rw [pay8_apply]
  have h : ∀ d, A3 m c (ix2 j d) = a2 m c (ix3 (cx j) d (cb j)) := fun d => A3_apply m c d j
  have hs : (∑ d', A3 m c (ix2 j d') * A3 m c (ix2 j d')) = ∑ d', a2 m c (ix3 (cx j) d' (cb j)) * a2 m c (ix3 (cx j) d' (cb j)) :=
    Finset.sum_congr rfl fun d' _ => congrArg₂ (· * ·) (h d') (h d')
  unfold ue
  rw [hs, h d, A4_apply]

/-- Whether row `n` ends at expert `x`. -/
abbrev fm (a0 : T0) (a1 : T1) (n : Fin 2048) (x : Fin 64) : EReal := fmE (en a0 a1 n) (gg a1) x

/-- The weight of expert `x` for row `n`. -/
abbrev sf (a0 : T0) (a1 : T1) (n : Fin 2048) (x : Fin 64) : EReal := edE (en a0 a1 n) x * fm a0 a1 n x

theorem y_at (c : Dev nD) (t : Fin 4) (n : Fin 512) (d : Fin 1024) :
    Outs.yOf (xblk (A0 m c) t) (A1 m c) (gv m c) (uv m c) (ix2 n d)
      = a0 m c (ix3 0 (gl t n) d) + ∑ b : Fin 16, ∑ x : Fin 64,
          (rr (a0 m c) (a1 m c) (gl t n) x b * fm (a0 m c) (a1 m c) (gl t n) x) * ue (a2 m c) (a3 m c) x d b := by
  have h := pay1_apply (k0_pay11 (xblk (A0 m c) t)) (k0_pay12 (xblk (A0 m c) t) (A1 m c))
    (k0_pay25 lanes (fin1 (xblk (A0 m c) t) (A1 m c) (gv m c)) (fin2 (xblk (A0 m c) t) (A1 m c) (gv m c)))
    (uv m c) n d
  refine Eq.trans h ?_
  have h11 : k0_pay11 (xblk (A0 m c) t) (ix2 n d) = a0 m c (ix3 0 (gl t n) d) := by
    rw [← xblk_apply]
    pointwise [k0_pay11]
  rw [h11, sum_cols]
  refine congrArg (_ + ·) (Finset.sum_congr rfl fun b _ => Finset.sum_congr rfl fun x _ => ?_)
  rw [pay25_apply, row_fun, gm_eq, read_eq, uv_apply, cx_cj, cb_cj]
  have hx : (⟨(cj b x).val % 64, Nat.mod_lt _ (by norm_num)⟩ : Fin 64) = x := cx_cj b x
  rw [hx]

theorem yArr_apply (c : Dev nD) (n : Fin 2048) (d : Fin 1024) :
    yArr m c (ix2 n d) = a0 m c (ix3 0 n d) + ∑ b : Fin 16, ∑ x : Fin 64,
          (rr (a0 m c) (a1 m c) n x b * fm (a0 m c) (a1 m c) n x) * ue (a2 m c) (a3 m c) x d b := by
  have hn := n.isLt
  have e : gl ⟨n.val / 512, by omega⟩ ⟨n.val % 512, Nat.mod_lt _ (by decide)⟩ = n := Fin.ext (by
    show 512 * (n.val / 512) + n.val % 512 = n.val; omega)
  refine (y_at m c ⟨n.val / 512, by omega⟩ ⟨n.val % 512, Nat.mod_lt _ (by decide)⟩ d).trans ?_
  rw [e]

/-- The energies block `t` adds. -/
def rawB (a0 : T0) (a1 : T1) (t : Fin 4) : EReal := ∑ n : Fin 512, ∑ x : Fin 64, en a0 a1 (gl t n) x * fm a0 a1 (gl t n) x

/-- The overlaps block `t` adds. -/
def ovB (a0 : T0) (a1 : T1) (t : Fin 4) : EReal :=
  (∑ n : Fin 512, ∑ x : Fin 64, (∑ p : Fin 64, sf a0 a1 (gl t n) p * gg a1 p x) * sf a0 a1 (gl t n) x)
    - ∑ n : Fin 512, ∑ x : Fin 64, sf a0 a1 (gl t n) x * gg a1 x x * sf a0 a1 (gl t n) x

theorem rawOf_apply (c : Dev nD) (t : Fin 4) (raw : Vec Ideal S1x1 .f32) :
    Outs.rawOf (xblk (A0 m c) t) (A1 m c) (gv m c) raw (ix2 0 0) = raw (ix2 0 0) + rawB (a0 m c) (a1 m c) t := by
  refine (pay26_apply (xblk (A0 m c) t) (A1 m c) (gv m c) raw).trans ?_
  refine congrArg (_ + ·) (Finset.sum_congr rfl fun n _ => Finset.sum_congr rfl fun x _ => ?_)
  rw [row_fun, gm_eq, row_eq]

theorem ovOf_apply (c : Dev nD) (t : Fin 4) (ov : Vec Ideal S1x1 .f32) :
    Outs.ovOf (xblk (A0 m c) t) (A1 m c) (gv m c) ov (ix2 0 0) = ov (ix2 0 0) + ovB (a0 m c) (a1 m c) t := by
  refine (pay27_apply (xblk (A0 m c) t) (A1 m c) (gv m c) ov).trans ?_
  have hr : ∀ n, row (k0_pay13 (xblk (A0 m c) t) (A1 m c)) n = en (a0 m c) (a1 m c) (gl t n) := row_fun m c t
  refine congrArg (_ + ·) (congrArg₂ (· - ·)
    (Finset.sum_congr rfl fun n _ => Finset.sum_congr rfl fun x _ => ?_)
    (Finset.sum_congr rfl fun n _ => Finset.sum_congr rfl fun x _ => ?_))
  · rw [hr, gm_eq]
  · rw [hr, gm_eq]

theorem rawF_apply (c : Dev nD) : rawF m c (ix2 0 0) = ∑ n : Fin 2048, ∑ x : Fin 64, en (a0 m c) (a1 m c) n x * fm (a0 m c) (a1 m c) n x := by
  rw [← sum_block]
  show _ = ∑ t, rawB (a0 m c) (a1 m c) t
  show rawN m c 3 _ (ix2 0 0) = _
  simp only [rawN]
  have h9 : k0_pay9 (F := Ideal) (ix2 0 0) = 0 := by pointwise [k0_pay9]
  rw [rawOf_apply, rawOf_apply, rawOf_apply, rawOf_apply, h9, zero_add, Fin.sum_univ_four]
  rfl

theorem ovF_apply (c : Dev nD) : ovF m c (ix2 0 0) = ∑ t, ovB (a0 m c) (a1 m c) t := by
  show ovN m c 3 _ (ix2 0 0) = _
  simp only [ovN]
  have h9 : k0_pay10 (F := Ideal) (ix2 0 0) = 0 := by pointwise [k0_pay10]
  rw [ovOf_apply, ovOf_apply, ovOf_apply, ovOf_apply, h9, zero_add, Fin.sum_univ_four]
  rfl

end Cert.KernelIdeal.Read

end
-- ==== Proof.RTake.lean ====
module

public import proofs.«01_k».proof.Proof.Gen.ReferenceIdeal.Read
public import proofs.«01_k».proof.Proof.Sel
public import proofs.«01_k».proof.Proof.Spec

@[expose] public section

set_option maxRecDepth 16384

noncomputable section

namespace Cert.ReferenceIdeal.Take

open Idealize.ShloMosaic Idealize.ShloMosaic.TcCoe Idealize.SL.Sem
open Cert.ReferenceIdeal Cert.Sel

/-- The front of a matrix's rows. -/
theorem front {α : Type} {N n k : ℕ} (x : (⟨2, ![N, n]⟩ : Shape).Idx → α) (h : (⟨2, ![N, n]⟩ : Shape).Slices (fun _ => 0) ⟨2, ![N, k]⟩)
    (a : Fin N) (i : Fin k) (i' : Fin n) (hi : i'.val = i.val) :
    extractStridedSlice (⟨2, ![N, k]⟩ : Shape) (fun _ => 0) x h (ix2 a i) = x (ix2 a i') := by
  unfold extractStridedSlice
  refine congrArg x (funext fun c => Fin.ext ?_)
  match c with
  | ⟨0, _⟩ => show 0 + a.val = a.val; omega
  | ⟨1, _⟩ => show 0 + i.val = i'.val; omega

theorem along_row {N n : ℕ} (a : Fin N) (i k : Fin n) : (ix2 a i : (⟨2, ![N, n]⟩ : Shape).Idx).along 1 k = ix2 a k := by
  funext c
  match c with
  | ⟨0, _⟩ => rfl
  | ⟨1, _⟩ => rfl

theorem before_row {N n : ℕ} (x : (⟨2, ![N, n]⟩ : Shape).Idx → EReal) (a : Fin N) (i' : Fin n) :
    (fun k k' : Fin n => FloatOps.cmpfTotal (F := Ideal) (φ := .f32) .gt (x ((ix2 a i' : (⟨2, ![N, n]⟩ : Shape).Idx).along 1 k)) (x ((ix2 a i' : (⟨2, ![N, n]⟩ : Shape).Idx).along 1 k')) == 1#1)
      = gt (fun y => x (ix2 a y)) := by
  funext k k'
  rw [along_row a i' k, along_row a i' k']
  rfl

/-- The values a row's sort puts first. -/
theorem top_fst {N n k : ℕ} (x : (⟨2, ![N, n]⟩ : Shape).Idx → EReal) (h : (⟨2, ![N, n]⟩ : Shape).Slices (fun _ => 0) ⟨2, ![N, k]⟩)
    (a : Fin N) (i : Fin k) (i' : Fin n) (hi : i'.val = i.val) :
    (Host.topK (⟨2, ![N, k]⟩ : Shape) 1 (FloatOps.cmpfTotal (F := Ideal) (φ := .f32) .gt) x h).1 (ix2 a i)
      = x (ix2 a (so (fun y => x (ix2 a y)) i')) := by
  show extractStridedSlice (⟨2, ![N, k]⟩ : Shape) (fun _ => 0) (Host.sort2 (⟨2, ![N, n]⟩ : Shape) 1
    (fun l r => FloatOps.cmpfTotal (F := Ideal) (φ := .f32) .gt l.1 r.1) x (iotaInDim (⟨2, ![N, n]⟩ : Shape) 32 1)).1 h (ix2 a i) = _
  rw [front _ h a i i' hi]
  show x ((ix2 a i').along 1 (sortedFrom (fun k k' => FloatOps.cmpfTotal (F := Ideal) (φ := .f32) .gt (x ((ix2 a i').along 1 k)) (x ((ix2 a i').along 1 k')) == 1#1) i')) = _
  exact (congrArg (fun b : Fin n → Fin n → Bool => x ((ix2 a i' : (⟨2, ![N, n]⟩ : Shape).Idx).along 1 (sortedFrom b i'))) (before_row x a i')).trans
    (congrArg x (along_row a i' _))

/-- Their positions. -/
theorem top_snd {N n k : ℕ} (x : (⟨2, ![N, n]⟩ : Shape).Idx → EReal) (h : (⟨2, ![N, n]⟩ : Shape).Slices (fun _ => 0) ⟨2, ![N, k]⟩)
    (a : Fin N) (i : Fin k) (i' : Fin n) (hi : i'.val = i.val) :
    (Host.topK (⟨2, ![N, k]⟩ : Shape) 1 (FloatOps.cmpfTotal (F := Ideal) (φ := .f32) .gt) x h).2 (ix2 a i)
      = BitVec.ofNat 32 (so (fun y => x (ix2 a y)) i').val := by
  show extractStridedSlice (⟨2, ![N, k]⟩ : Shape) (fun _ => 0) (Host.sort2 (⟨2, ![N, n]⟩ : Shape) 1
    (fun l r => FloatOps.cmpfTotal (F := Ideal) (φ := .f32) .gt l.1 r.1) x (iotaInDim (⟨2, ![N, n]⟩ : Shape) 32 1)).2 h (ix2 a i) = _
  rw [front _ h a i i' hi]
  show BitVec.ofNat 32 (((ix2 a i' : (⟨2, ![N, n]⟩ : Shape).Idx).along 1 (sortedFrom (fun k k' => FloatOps.cmpfTotal (F := Ideal) (φ := .f32) .gt (x ((ix2 a i').along 1 k)) (x ((ix2 a i').along 1 k')) == 1#1) i')) 1).val = _
  exact congrArg (fun b : Fin n → Fin n → Bool => BitVec.ofNat 32 (sortedFrom b i').val) (before_row x a i')

/-- A small word read signed. -/
theorem word_toNat (k : ℕ) (h : k < 64) : (BitVec.ofNat 32 k).toInt.toNat = k := by
  have e : (BitVec.ofNat 32 k).toNat = k := by rw [BitVec.toNat_ofNat]; omega
  rw [BitVec.toInt_eq_toNat_of_lt (by omega), e]
  rfl

theorem gath_a {α : Type} (x : S64x1024x16.Idx → α) (idx : IVec S2048x4x1 32) (n : Fin 2048) (i : Fin 4) (d : Fin 1024) (b : Fin 16) (p : Fin 64)
    (hp : idx (ix3 n i 0) = BitVec.ofNat 32 p.val) :
    Host.gather gather_S64x1024x16_S2048x4x1_S2048x4x1024x16_23_0_n_n_0_2_1102416 x idx (ix4 n i d b) = x (ix3 p d b) := by
  unfold Host.gather
  refine congrArg x (funext fun a => Fin.ext ?_)
  have hs : ∀ c, (gather_S64x1024x16_S2048x4x1_S2048x4x1024x16_23_0_n_n_0_2_1102416).siIdx (ix4 n i d b) c = ix3 n i 0 := by
    intro c
    funext b
    match b with
    | ⟨0, _⟩ => rfl
    | ⟨1, _⟩ => rfl
    | ⟨2, _⟩ => exact Subsingleton.elim (α := Fin 1) _ _
  match a with
  | ⟨0, _⟩ =>
    show min (idx (GatherDims.siIdx _ _ _)).toInt.toNat 63 + 0 + 0 = p.val
    rw [hs, hp, word_toNat _ p.isLt]
    have := p.isLt
    omega
  | ⟨1, _⟩ => show 0 + 0 + d.val = d.val; omega
  | ⟨2, _⟩ => show 0 + 0 + b.val = b.val; omega

theorem gath_d {α : Type} (x : S64x1024x16.Idx → α) (idx : IVec S2048x2x1 32) (n : Fin 2048) (i : Fin 2) (d : Fin 1024) (b : Fin 16) (p : Fin 64)
    (hp : idx (ix3 n i 0) = BitVec.ofNat 32 p.val) :
    Host.gather gather_S64x1024x16_S2048x2x1_S2048x2x1024x16_23_0_n_n_0_2_1102416 x idx (ix4 n i d b) = x (ix3 p d b) := by
  unfold Host.gather
  refine congrArg x (funext fun a => Fin.ext ?_)
  have hs : ∀ c, (gather_S64x1024x16_S2048x2x1_S2048x2x1024x16_23_0_n_n_0_2_1102416).siIdx (ix4 n i d b) c = ix3 n i 0 := by
    intro c
    funext b
    match b with
    | ⟨0, _⟩ => rfl
    | ⟨1, _⟩ => rfl
    | ⟨2, _⟩ => exact Subsingleton.elim (α := Fin 1) _ _
  match a with
  | ⟨0, _⟩ =>
    show min (idx (GatherDims.siIdx _ _ _)).toInt.toNat 63 + 0 + 0 = p.val
    rw [hs, hp, word_toNat _ p.isLt]
    have := p.isLt
    omega
  | ⟨1, _⟩ => show 0 + 0 + d.val = d.val; omega
  | ⟨2, _⟩ => show 0 + 0 + b.val = b.val; omega

theorem gath_b {α : Type} (x : S2048x4.Idx → α) (idx : IVec S2048x2x1 32) (n : Fin 2048) (i : Fin 2) (p : Fin 4)
    (hp : idx (ix3 n i 0) = BitVec.ofNat 32 p.val) :
    Host.gather gather_S2048x4_S2048x2x1_S2048x2_n_1_0_0_1_2_11 x idx (ix2 n i) = x (ix2 n p) := by
  unfold Host.gather
  refine congrArg x (funext fun a => Fin.ext ?_)
  have hs : ∀ c, (gather_S2048x4_S2048x2x1_S2048x2_n_1_0_0_1_2_11).siIdx (ix2 n i) c = ix3 n i 0 := by
    intro c
    funext b
    match b with
    | ⟨0, _⟩ => rfl
    | ⟨1, _⟩ => rfl
    | ⟨2, _⟩ => exact Subsingleton.elim (α := Fin 1) _ _
  match a with
  | ⟨0, _⟩ => show 0 + n.val + 0 = n.val; omega
  | ⟨1, _⟩ =>
    show min (idx (GatherDims.siIdx _ _ _)).toInt.toNat 3 + 0 + 0 = p.val
    rw [hs, hp, word_toNat _ (by have := p.isLt; omega)]
    have := p.isLt
    omega

theorem gath_c {α : Type} (x : S2048x64x16.Idx → α) (idx : IVec S2048x2x1 32) (n : Fin 2048) (i : Fin 2) (b : Fin 16) (p : Fin 64)
    (hp : idx (ix3 n i 0) = BitVec.ofNat 32 p.val) :
    Host.gather gather_S2048x64x16_S2048x2x1_S2048x2x16_2_1_0_0_1_2_1116 x idx (ix3 n i b) = x (ix3 n p b) := by
  unfold Host.gather
  refine congrArg x (funext fun a => Fin.ext ?_)
  have hs : ∀ c, (gather_S2048x64x16_S2048x2x1_S2048x2x16_2_1_0_0_1_2_1116).siIdx (ix3 n i b) c = ix3 n i 0 := by
    intro c
    funext b
    match b with
    | ⟨0, _⟩ => rfl
    | ⟨1, _⟩ => rfl
    | ⟨2, _⟩ => exact Subsingleton.elim (α := Fin 1) _ _
  match a with
  | ⟨0, _⟩ => show 0 + n.val + 0 = n.val; omega
  | ⟨1, _⟩ =>
    show min (idx (GatherDims.siIdx _ _ _)).toInt.toNat 63 + 0 + 0 = p.val
    rw [hs, hp, word_toNat _ (by have := p.isLt; omega)]
    have := p.isLt
    omega
  | ⟨2, _⟩ => show 0 + 0 + b.val = b.val; omega

theorem gath_e {α : Type} (x : S2048x4x4.Idx → α) (idx : IVec S2048x2x1 32) (n : Fin 2048) (i : Fin 2) (b : Fin 4) (p : Fin 4)
    (hp : idx (ix3 n i 0) = BitVec.ofNat 32 p.val) :
    Host.gather gather_S2048x4x4_S2048x2x1_S2048x2x4_2_1_0_0_1_2_114 x idx (ix3 n i b) = x (ix3 n p b) := by
  unfold Host.gather
  refine congrArg x (funext fun a => Fin.ext ?_)
  have hs : ∀ c, (gather_S2048x4x4_S2048x2x1_S2048x2x4_2_1_0_0_1_2_114).siIdx (ix3 n i b) c = ix3 n i 0 := by
    intro c
    funext b
    match b with
    | ⟨0, _⟩ => rfl
    | ⟨1, _⟩ => rfl
    | ⟨2, _⟩ => exact Subsingleton.elim (α := Fin 1) _ _
  match a with
  | ⟨0, _⟩ => show 0 + n.val + 0 = n.val; omega
  | ⟨1, _⟩ =>
    show min (idx (GatherDims.siIdx _ _ _)).toInt.toNat 3 + 0 + 0 = p.val
    rw [hs, hp, word_toNat _ (by have := p.isLt; omega)]
    have := p.isLt
    omega
  | ⟨2, _⟩ => show 0 + 0 + b.val = b.val; omega

theorem gath_f {α : Type} (x : S2048x2x4.Idx → α) (idx : IVec S2048x2x1 32) (n : Fin 2048) (i : Fin 2) (b : Fin 2) (p : Fin 4)
    (hp : idx (ix3 n i 0) = BitVec.ofNat 32 p.val) :
    Host.gather gather_S2048x2x4_S2048x2x1_S2048x2x2_1_2_0_0_2_2_121 x idx (ix3 n b i) = x (ix3 n b p) := by
  unfold Host.gather
  refine congrArg x (funext fun a => Fin.ext ?_)
  have hs : ∀ c, (gather_S2048x2x4_S2048x2x1_S2048x2x2_1_2_0_0_2_2_121).siIdx (ix3 n b i) c = ix3 n i 0 := by
    intro c
    funext b
    match b with
    | ⟨0, _⟩ => rfl
    | ⟨1, _⟩ => rfl
    | ⟨2, _⟩ => exact Subsingleton.elim (α := Fin 1) _ _
  match a with
  | ⟨0, _⟩ => show 0 + n.val + 0 = n.val; omega
  | ⟨1, _⟩ => show 0 + 0 + b.val = b.val; omega
  | ⟨2, _⟩ =>
    show min (idx (GatherDims.siIdx _ _ _)).toInt.toNat 3 + 0 + 0 = p.val
    rw [hs, hp, word_toNat _ (by have := p.isLt; omega)]
    have := p.isLt
    omega

end Cert.ReferenceIdeal.Take

end
-- ==== Proof.RRead.lean ====
module

public import proofs.«01_k».proof.Proof.RTake

@[expose] public section

set_option maxRecDepth 16384

noncomputable section

namespace Cert.ReferenceIdeal.Rows

open Idealize.ShloMosaic Idealize.ShloMosaic.TcCoe Idealize.SL.Sem
open Cert.ReferenceIdeal Cert.ReferenceIdeal.Read Cert.ReferenceIdeal.Take Cert.Sel Cert.Spec

/-- Zero on the diagonal, one off it. -/
def off {k : ℕ} (i j : Fin k) : EReal := 1 - if i = j then 1 else 0

variable (x0 : T0) (x1 : T1) (x2 : T2) (x3 : T3)

/-- The drafted experts of row `n`. -/
def p (n : Fin 2048) (i : Fin 4) : Fin 64 := so (en x0 x1 n) ⟨i.val, by have := i.isLt; omega⟩

/-- Their amplitudes. -/
def ds (n : Fin 2048) (i : Fin 4) : EReal := Ideal.sqrt (en x0 x1 n (p x0 x1 n i))

/-- Their overlaps. -/
def gl (n : Fin 2048) (i j : Fin 4) : EReal := gg x1 (p x0 x1 n i) (p x0 x1 n j)

/-- Their corrected scores. -/
def sc (n : Fin 2048) (j : Fin 4) : EReal :=
  en x0 x1 n (p x0 x1 n j) - (∑ i, ds x0 x1 n i * (gl x0 x1 n i j * off i j)) * ds x0 x1 n j

/-- The draft positions kept. -/
def q (n : Fin 2048) (k : Fin 2) : Fin 4 := so (sc x0 x1 n) ⟨k.val, by have := k.isLt; omega⟩

theorem v4_apply (d : Fin 1024) (m : Fin 64) (b : Fin 16) : val_main_v4 (F := Ideal) x1 (ix3 d m b) = vn x1 d m b := by
  unfold vn
  pointwise [val_main_v4, val_main_v3, val_main_v2, val_main_v1, val_main_v0, val_main_cst, val_main_call0_v2, val_main_call0_v1, val_main_call0_v0, val_main_call0_cst]

theorem v6_apply (n : Fin 2048) (m : Fin 64) (b : Fin 16) : val_main_v6 (F := Ideal) x0 x1 (ix3 n m b) = rr x0 x1 n m b := by
  rw [val_main_v6_apply]
  unfold rr
  refine Finset.sum_congr rfl fun d _ => ?_
  rw [← v4_apply]
  refine congrArg₂ (· * ·) ?_ (congrArg _ ?_)
  · pointwise [val_main_v5]
    rfl
  · funext a
    match a with
    | ⟨0, _⟩ => rfl
    | ⟨1, _⟩ => rfl
    | ⟨2, _⟩ => rfl

theorem v8_apply (n : Fin 2048) (m : Fin 64) : val_main_v8 (F := Ideal) x0 x1 (ix2 n m) = en x0 x1 n m := by
  unfold en
  simp only [← v6_apply]
  pointwise [val_main_v8, val_main_v7, val_main_cst_0]

theorem v12_apply (n : Fin 2048) (i : Fin 4) : val_main_v12 (F := Ideal) x0 x1 (ix2 n i)
   = ∑ d : Fin 1024, ∑ b : Fin 16, val_main_v10 (F := Ideal) x0 x1 (ix4 n i d b) * val_main_v10 (F := Ideal) x0 x1 (ix4 n i d b) := by
  pointwise [val_main_v12, val_main_v11, val_main_cst_1]

theorem v19_apply (n : Fin 2048) (i j : Fin 4) : val_main_v19 (F := Ideal) x0 x1 (ix3 n i j)
   = ∑ b : Fin 16, ∑ d : Fin 1024, val_main_v18 (F := Ideal) x0 x1 (ix4 n i d b) * val_main_v18 (F := Ideal) x0 x1 (ix4 n j d b) := by
  pointwise [val_main_v19]

theorem v49_apply (n : Fin 2048) (d : Fin 1024) : val_main_v49 (F := Ideal) x0 x1 x2 x3 (ix2 n d)
   = ∑ b : Fin 16, ∑ k : Fin 2, val_main_v48 (F := Ideal) x0 x1 x2 x3 (ix4 n k d b) * val_main_v36 (F := Ideal) x0 x1 (ix3 n k b) := by
  pointwise [val_main_v49]

theorem v8_row (n : Fin 2048) : (fun m => val_main_v8 (F := Ideal) x0 x1 (ix2 n m)) = en x0 x1 n := funext fun m => v8_apply x0 x1 n m

theorem values_apply (n : Fin 2048) (i : Fin 4) : val_main_values (F := Ideal) x0 x1 (ix2 n i) = en x0 x1 n (p x0 x1 n i) := by
  refine (top_fst (val_main_v8 (F := Ideal) x0 x1) _ n i ⟨i.val, by have := i.isLt; omega⟩ rfl).trans ?_
  rw [v8_row]
  exact v8_apply x0 x1 n _

theorem indices_apply (n : Fin 2048) (i : Fin 4) : val_main_indices (F := Ideal) x0 x1 (ix2 n i) = BitVec.ofNat 32 (p x0 x1 n i).val := by
  refine (top_snd (val_main_v8 (F := Ideal) x0 x1) _ n i ⟨i.val, by have := i.isLt; omega⟩ rfl).trans ?_
  rw [v8_row]
  rfl

theorem v10_apply (n : Fin 2048) (i : Fin 4) (d : Fin 1024) (b : Fin 16) :
    val_main_v10 (F := Ideal) x0 x1 (ix4 n i d b) = vn x1 d (p x0 x1 n i) b := by
  have h : val_main_call1_v0 (F := Ideal) x0 x1 (ix3 n i 0) = BitVec.ofNat 32 (p x0 x1 n i).val := by
    rw [← indices_apply]
    pointwise [val_main_call1_v0]
  refine (gath_a (val_main_v9 (F := Ideal) x1) _ n i d b _ h).trans ?_
  rw [← v4_apply]
  pointwise [val_main_v9]

theorem eps_real : ∃ r : ℝ, 0 < r ∧ eps = (r : EReal) := by
  refine ⟨9223372 * (2 ^ 63)⁻¹, by positivity, ?_⟩
  unfold eps
  simp [Ideal.ofBits, Ideal.ieee]

theorem eps_pos : (0 : EReal) < eps := by
  obtain ⟨r, h, e⟩ := eps_real
  rw [e]
  exact_mod_cast h

theorem gn_pos (m : Fin 64) : 0 < gn x1 m := lt_of_lt_of_le eps_pos (le_max_right _ _)

theorem v16_apply (n : Fin 2048) (i : Fin 4) : val_main_v16 (F := Ideal) x0 x1 (ix4 n i 0 0) = gn x1 (p x0 x1 n i) := by
  unfold gn
  rw [Finset.sum_comm]
  simp only [← v10_apply]
  rw [← v12_apply]
  pointwise [val_main_v16, val_main_v15, val_main_v14, val_main_v13, val_main_cst_2]

theorem v18_apply (n : Fin 2048) (i : Fin 4) (d : Fin 1024) (b : Fin 16) :
    val_main_v18 (F := Ideal) x0 x1 (ix4 n i d b) = vn x1 d (p x0 x1 n i) b * Ideal.div 1 (gn x1 (p x0 x1 n i)) := by
  rw [Ideal.mul_one_div (gn_pos x1 _).ne', ← v16_apply, ← v10_apply]
  pointwise [val_main_v18, val_main_v17]

theorem v19_gl (n : Fin 2048) (i j : Fin 4) : val_main_v19 (F := Ideal) x0 x1 (ix3 n i j) = gl x0 x1 n i j := by
  rw [v19_apply]
  unfold gl gg
  simp only [v18_apply]

theorem v20_apply (n : Fin 2048) (i : Fin 4) : val_main_v20 (F := Ideal) x0 x1 (ix2 n i) = ds x0 x1 n i := by
  unfold ds
  rw [← values_apply]
  pointwise [val_main_v20]

theorem bit_ite (c : Prop) [Decidable c] : FloatOps.uitofp (F := Ideal) .f32 (if c then 1#1 else 0#1) = if c then (1 : EReal) else 0 := by
  split
  · show (((1#1 : BitVec 1).toNat : ℝ) : EReal) = 1
    simp
  · show (((0#1 : BitVec 1).toNat : ℝ) : EReal) = 0
    simp

theorem eye4 (i j : Fin 4) : FloatOps.uitofp (F := Ideal) .f32 (IntOp.cmpi .eq (IntOp.addi (BitVec.ofNat 32 i.val) 0#32) (BitVec.ofNat 32 j.val))
    = if i = j then (1 : EReal) else 0 := by
  have h : ∀ i j : Fin 4, IntOp.cmpi .eq (IntOp.addi (BitVec.ofNat 32 i.val) 0#32) (BitVec.ofNat 32 j.val) = if i = j then 1#1 else 0#1 := by decide
  rw [h, bit_ite]

theorem eye2 (i j : Fin 2) : FloatOps.uitofp (F := Ideal) .f32 (IntOp.cmpi .eq (IntOp.addi (BitVec.ofNat 32 i.val) 0#32) (BitVec.ofNat 32 j.val))
    = if i = j then (1 : EReal) else 0 := by
  have h : ∀ i j : Fin 2, IntOp.cmpi .eq (IntOp.addi (BitVec.ofNat 32 i.val) 0#32) (BitVec.ofNat 32 j.val) = if i = j then 1#1 else 0#1 := by decide
  rw [h, bit_ite]

theorem v30_apply (n : Fin 2048) (i j : Fin 4) : val_main_v30 (F := Ideal) (ix3 n i j) = off i j := by
  unfold off
  pointwise [val_main_v30, val_main_v29, val_main_v28, val_main_v27, val_main_v26, val_main_v25, val_main_v24, val_main_v23, val_main_v22, val_main_v21, val_main_c, val_main_cst_3]
  rw [eye4]

theorem v66_apply (n : Fin 2048) (i j : Fin 2) : val_main_v66 (F := Ideal) (ix3 n i j) = off i j := by
  unfold off
  pointwise [val_main_v66, val_main_v65, val_main_v64, val_main_v63, val_main_v62, val_main_v61, val_main_v60, val_main_v59, val_main_v58, val_main_v57, val_main_c_9, val_main_cst_10]
  rw [eye2]

theorem v34_apply (n : Fin 2048) (j : Fin 4) : val_main_v34 (F := Ideal) x0 x1 (ix2 n j) = sc x0 x1 n j := by
  unfold sc
  simp only [← v20_apply, ← v19_gl, ← v30_apply n, ← values_apply]
  pointwise [val_main_v34, val_main_v33, val_main_v32, val_main_v31]

theorem v34_row (n : Fin 2048) : (fun m => val_main_v34 (F := Ideal) x0 x1 (ix2 n m)) = sc x0 x1 n := funext fun m => v34_apply x0 x1 n m

theorem indices5_apply (n : Fin 2048) (k : Fin 2) : val_main_indices_5 (F := Ideal) x0 x1 (ix2 n k) = BitVec.ofNat 32 (q x0 x1 n k).val := by
  refine (top_snd (val_main_v34 (F := Ideal) x0 x1) _ n k ⟨k.val, by have := k.isLt; omega⟩ rfl).trans ?_
  rw [v34_row]
  rfl

theorem v35_apply (n : Fin 2048) (k : Fin 2) : val_main_v35 (F := Ideal) x0 x1 (ix2 n k) = BitVec.ofNat 32 (p x0 x1 n (q x0 x1 n k)).val := by
  have h : val_main_call2_v0 (F := Ideal) x0 x1 (ix3 n k 0) = BitVec.ofNat 32 (q x0 x1 n k).val := by
    rw [← indices5_apply]
    pointwise [val_main_call2_v0]
  refine (gath_b (val_main_indices (F := Ideal) x0 x1) _ n k _ h).trans ?_
  exact indices_apply x0 x1 n _

theorem v36_apply (n : Fin 2048) (k : Fin 2) (b : Fin 16) : val_main_v36 (F := Ideal) x0 x1 (ix3 n k b) = rr x0 x1 n (p x0 x1 n (q x0 x1 n k)) b := by
  have h : val_main_call3_v0 (F := Ideal) x0 x1 (ix3 n k 0) = BitVec.ofNat 32 (p x0 x1 n (q x0 x1 n k)).val := by
    rw [← v35_apply]
    pointwise [val_main_call3_v0]
  refine (gath_c (val_main_v6 (F := Ideal) x0 x1) _ n k b _ h).trans ?_
  exact v6_apply x0 x1 n _ b

/-- The scaled update basis, the unit column scaled. -/
theorem v47_apply (m : Fin 64) (d : Fin 1024) (b : Fin 16) : val_main_v47 (F := Ideal) x2 x3 (ix3 m d b)
    = Ideal.div (x2 (ix3 m d b)) (max (Ideal.sqrt (∑ d', x2 (ix3 m d' b) * x2 (ix3 m d' b))) eps) * (Ideal.tanh (x3 (ix2 m b)) * lam) := by
  pointwise [val_main_v47, val_main_v46, val_main_v45, val_main_v44, val_main_v43, val_main_v42, val_main_v41, val_main_v40, val_main_v39, val_main_v38, val_main_v37,
    val_main_cst_6, val_main_cst_7, val_main_call4_v2, val_main_call4_v1, val_main_call4_v0, val_main_call4_cst]

theorem v47_ue (m : Fin 64) (d : Fin 1024) (b : Fin 16) : val_main_v47 (F := Ideal) x2 x3 (ix3 m d b) = ue x2 x3 m d b := by
  have hp : 0 < max (Ideal.sqrt (∑ d', x2 (ix3 m d' b) * x2 (ix3 m d' b))) eps := lt_of_lt_of_le eps_pos (le_max_right _ _)
  rw [v47_apply]
  unfold ue
  rw [← Ideal.mul_one_div hp.ne', ← Ideal.mul_one_div (x := Ideal.tanh _ * _) hp.ne']
  rw [mul_assoc, mul_comm (Ideal.div 1 _)]

theorem v48_apply (n : Fin 2048) (k : Fin 2) (d : Fin 1024) (b : Fin 16) :
    val_main_v48 (F := Ideal) x0 x1 x2 x3 (ix4 n k d b) = ue x2 x3 (p x0 x1 n (q x0 x1 n k)) d b := by
  have h : val_main_call5_v0 (F := Ideal) x0 x1 (ix3 n k 0) = BitVec.ofNat 32 (p x0 x1 n (q x0 x1 n k)).val := by
    rw [← v35_apply]
    pointwise [val_main_call5_v0]
  refine (gath_d (val_main_v47 (F := Ideal) x2 x3) _ n k d b _ h).trans ?_
  exact v47_ue x2 x3 _ d b

theorem v51_apply (n : Fin 2048) (d : Fin 1024) : val_main_v51 (F := Ideal) x0 x1 x2 x3 (ix3 0 n d)
    = x0 (ix3 0 n d) + ∑ b : Fin 16, ∑ k : Fin 2, ue x2 x3 (p x0 x1 n (q x0 x1 n k)) d b * rr x0 x1 n (p x0 x1 n (q x0 x1 n k)) b := by
  simp only [← v48_apply x0 x1, ← v36_apply]
  rw [← v49_apply]
  pointwise [val_main_v51, val_main_v50]

/-- The amplitudes kept. -/
theorem v52_apply (n : Fin 2048) (k : Fin 2) : val_main_v52 (F := Ideal) x0 x1 (ix2 n k) = ds x0 x1 n (q x0 x1 n k) := by
  have h : val_main_call6_v0 (F := Ideal) x0 x1 (ix3 n k 0) = BitVec.ofNat 32 (q x0 x1 n k).val := by
    rw [← indices5_apply]
    pointwise [val_main_call6_v0]
  refine (gath_b (val_main_v20 (F := Ideal) x0 x1) _ n k _ h).trans ?_
  exact v20_apply x0 x1 n _

theorem v54_apply (n : Fin 2048) (k l : Fin 2) : val_main_v54 (F := Ideal) x0 x1 (ix3 n k l) = gl x0 x1 n (q x0 x1 n k) (q x0 x1 n l) := by
  have h7 : val_main_call7_v0 (F := Ideal) x0 x1 (ix3 n k 0) = BitVec.ofNat 32 (q x0 x1 n k).val := by
    rw [← indices5_apply]
    pointwise [val_main_call7_v0]
  have h8 : val_main_call8_v0 (F := Ideal) x0 x1 (ix3 n l 0) = BitVec.ofNat 32 (q x0 x1 n l).val := by
    rw [← indices5_apply]
    pointwise [val_main_call8_v0]
  refine (gath_f (val_main_v53 (F := Ideal) x0 x1) _ n l k _ h8).trans ?_
  refine (gath_e (val_main_v19 (F := Ideal) x0 x1) _ n k _ _ h7).trans ?_
  exact v19_gl x0 x1 n _ _

theorem v56_apply (i : S_.Idx) : val_main_v56 (F := Ideal) x0 x1 i = ∑ n : Fin 2048, ∑ k : Fin 2, ds x0 x1 n (q x0 x1 n k) * ds x0 x1 n (q x0 x1 n k) := by
  simp only [← v52_apply]
  pointwise [val_main_v56, val_main_v55, val_main_cst_8]

theorem v70_apply (i : S_.Idx) : val_main_v70 (F := Ideal) x0 x1 i
    = ∑ n : Fin 2048, ∑ l : Fin 2, (∑ k : Fin 2, ds x0 x1 n (q x0 x1 n k) * (gl x0 x1 n (q x0 x1 n k) (q x0 x1 n l) * off k l)) * ds x0 x1 n (q x0 x1 n l) := by
  have h : ∀ n k l, gl x0 x1 n (q x0 x1 n k) (q x0 x1 n l) * off k l = val_main_v54 (F := Ideal) x0 x1 (ix3 n k l) * val_main_v66 (F := Ideal) (ix3 n k l) :=
    fun n k l => by rw [v54_apply, v66_apply]
  simp only [← v52_apply, h]
  pointwise [val_main_v70, val_main_v69, val_main_v68, val_main_v67, val_main_cst_11]

end Cert.ReferenceIdeal.Rows

end
-- ==== Proof.Real.lean ====
module

public import proofs.«01_k».proof.Proof.RRead

@[expose] public section

noncomputable section

namespace Cert.Spec

open Idealize.ShloMosaic

/-- A finite value. -/
def Rl (x : EReal) : Prop := ∃ r : ℝ, x = (r : EReal)

theorem Rl.coe (r : ℝ) : Rl (r : EReal) := ⟨r, rfl⟩

theorem Rl.zero : Rl 0 := ⟨0, rfl⟩

theorem Rl.one : Rl 1 := ⟨1, rfl⟩

theorem Rl.add {x y : EReal} (hx : Rl x) (hy : Rl y) : Rl (x + y) := by
  obtain ⟨a, rfl⟩ := hx
  obtain ⟨b, rfl⟩ := hy
  exact ⟨a + b, (EReal.coe_add a b).symm⟩

theorem Rl.sub {x y : EReal} (hx : Rl x) (hy : Rl y) : Rl (x - y) := by
  obtain ⟨a, rfl⟩ := hx
  obtain ⟨b, rfl⟩ := hy
  exact ⟨a - b, (EReal.coe_sub a b).symm⟩

theorem Rl.mul {x y : EReal} (hx : Rl x) (hy : Rl y) : Rl (x * y) := by
  obtain ⟨a, rfl⟩ := hx
  obtain ⟨b, rfl⟩ := hy
  exact ⟨a * b, (EReal.coe_mul a b).symm⟩

theorem Rl.max {x y : EReal} (hx : Rl x) (hy : Rl y) : Rl (max x y) := by
  rcases le_total x y with h | h
  · rwa [max_eq_right h]
  · rwa [max_eq_left h]

theorem Rl.sum {ι : Type} (s : Finset ι) (f : ι → EReal) (h : ∀ i, Rl (f i)) : Rl (∑ i ∈ s, f i) := by
  classical
  induction s using Finset.induction_on with
  | empty => simpa using Rl.zero
  | insert a s ha ih =>
    rw [Finset.sum_insert ha]
    exact (h a).add ih

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Rl.sqrt {x : EReal} (hx : Rl x) (h : 0 ≤ x) : Rl (Ideal.sqrt x) := by
  obtain ⟨a, rfl⟩ := hx
  have ha : 0 ≤ a := by exact_mod_cast h
  rw [Ideal.sqrt_coe, if_neg (not_lt.mpr ha)]
  exact Rl.coe _

theorem sqrt_mul_self {x : EReal} (hx : Rl x) (h : 0 ≤ x) : Ideal.sqrt x * Ideal.sqrt x = x := by
  obtain ⟨a, rfl⟩ := hx
  have ha : 0 ≤ a := by exact_mod_cast h
  rw [Ideal.sqrt_coe, if_neg (not_lt.mpr ha), ← EReal.coe_mul, Real.mul_self_sqrt ha]

theorem Rl.div {x y : EReal} (hx : Rl x) (hy : Rl y) (h : 0 < y) : Rl (Ideal.div x y) := by
  obtain ⟨b, rfl⟩ := hy
  have hb : b ≠ 0 := by
    rintro rfl
    exact lt_irrefl _ h
  rw [Ideal.div_coe hb]
  exact hx.mul (Rl.coe _)

theorem sq_nonneg {x : EReal} (hx : Rl x) : 0 ≤ x * x := by
  obtain ⟨a, rfl⟩ := hx
  rw [← EReal.coe_mul]
  exact_mod_cast mul_self_nonneg a

theorem Rl.ne_bot {x : EReal} (hx : Rl x) : x ≠ ⊥ := by
  obtain ⟨a, rfl⟩ := hx
  exact EReal.coe_ne_bot a

/-- Finite sums may be subtracted term by term. -/
theorem sum_sub {ι : Type} (s : Finset ι) (f g : ι → EReal) (hf : ∀ i, Rl (f i)) (hg : ∀ i, Rl (g i)) :
    (∑ i ∈ s, f i) - ∑ i ∈ s, g i = ∑ i ∈ s, (f i - g i) := by
  choose a ha using hf
  choose b hb using hg
  obtain rfl : f = fun i => (a i : EReal) := funext ha
  obtain rfl : g = fun i => (b i : EReal) := funext hb
  simp only [← EReal.coe_sub, ← coe_sum, Finset.sum_sub_distrib]

theorem eps_rl : Rl eps := by
  obtain ⟨r, _, h⟩ := Cert.ReferenceIdeal.Rows.eps_real
  exact ⟨r, h⟩

theorem Rl.of_ne {x : EReal} (ht : x ≠ ⊤) (hb : x ≠ ⊥) : Rl x := ⟨x.toReal, (EReal.coe_toReal ht hb).symm⟩

theorem mul_self_nonneg (x : EReal) : 0 ≤ x * x := by
  induction x using EReal.rec with
  | bot => simp
  | top => simp
  | coe r => exact sq_nonneg (Rl.coe r)

/-- An entry of a column whose sum of squares is finite. -/
theorem entry_rl {ι : Type} [Fintype ι] (f : ι → EReal) (h : ∑ i, f i * f i ≠ ⊤) (i : ι) : Rl (f i) := by
  have hle : f i * f i ≤ ∑ i, f i * f i :=
    Finset.single_le_sum (f := fun i => f i * f i) (fun j _ => mul_self_nonneg (f j)) (Finset.mem_univ i)
  refine Rl.of_ne (fun e => h ?_) (fun e => h ?_)
  · rw [e, EReal.top_mul_top] at hle
    exact top_le_iff.mp hle
  · rw [e, EReal.bot_mul_bot] at hle
    exact top_le_iff.mp hle

section
variable {a0 : T0} (a1 : T1) (h0 : ∀ i, Rl (a0 i))

/-- A unit column is finite even over infinite entries, whose norm is infinite. -/
theorem vn_rl (d : Fin 1024) (m : Fin 64) (b : Fin 16) : Rl (vn a1 d m b) := by
  unfold vn
  by_cases h : ∑ d', a1 (ix3 d' m b) * a1 (ix3 d' m b) = ⊤
  · rw [h, Ideal.sqrt_top, max_eq_left le_top]
    unfold Ideal.div
    rw [if_neg EReal.top_ne_zero, EReal.inv_top, mul_zero]
    exact Rl.zero
  · have h1 : ∀ d', Rl (a1 (ix3 d' m b)) := entry_rl (fun d' => a1 (ix3 d' m b)) h
    exact (h1 d).div (((Rl.sum _ _ fun d' => (h1 d').mul (h1 d')).sqrt (Finset.sum_nonneg fun d' _ => sq_nonneg (h1 d'))).max eps_rl)
      (lt_of_lt_of_le Cert.ReferenceIdeal.Rows.eps_pos (le_max_right _ _))

theorem gn_rl (m : Fin 64) : Rl (gn a1 m) :=
  ((Rl.sum _ _ fun b => Rl.sum _ _ fun d => (vn_rl a1 d m b).mul (vn_rl a1 d m b)).sqrt
    (Finset.sum_nonneg fun b _ => Finset.sum_nonneg fun d _ => sq_nonneg (vn_rl a1 d m b))).max eps_rl

theorem gg_rl (m m' : Fin 64) : Rl (gg a1 m m') := by
  have h : ∀ m, Rl (Ideal.div 1 (gn a1 m)) := fun m => Rl.one.div (gn_rl a1 m) (Cert.ReferenceIdeal.Rows.gn_pos a1 m)
  exact Rl.sum _ _ fun b => Rl.sum _ _ fun d => ((vn_rl a1 d m b).mul (h m)).mul ((vn_rl a1 d m' b).mul (h m'))

include h0

theorem rr_rl (n : Fin 2048) (m : Fin 64) (b : Fin 16) : Rl (rr a0 a1 n m b) :=
  Rl.sum _ _ fun d => (h0 _).mul (vn_rl a1 d m b)

theorem en_rl (n : Fin 2048) (m : Fin 64) : Rl (en a0 a1 n m) :=
  Rl.sum _ _ fun b => (rr_rl a1 h0 n m b).mul (rr_rl a1 h0 n m b)

theorem en_nonneg (n : Fin 2048) (m : Fin 64) : 0 ≤ en a0 a1 n m :=
  Finset.sum_nonneg fun b _ => sq_nonneg (rr_rl a1 h0 n m b)

end

end Cert.Spec

end
-- ==== Proof.Choice.lean ====
module

public import proofs.«01_k».proof.Proof.Real
public import proofs.«01_k».proof.Proof.KSel

@[expose] public section

noncomputable section

namespace Cert.Choice

open Idealize.ShloMosaic Cert.Sel Cert.Spec Cert.KernelIdeal.Row
open Cert.ReferenceIdeal.Rows (off)

section
variable (E : Fin 64 → EReal) (G : Fin 64 → Fin 64 → EReal)

/-- The four greatest energies' positions. -/
def P (i : Fin 4) : Fin 64 := so E ⟨i.val, by have := i.isLt; omega⟩

/-- Their square roots. -/
def D (i : Fin 4) : EReal := Ideal.sqrt (E (P E i))

/-- The corrected scores, over the four alone. -/
def SC (j : Fin 4) : EReal := E (P E j) - (∑ i, D E i * (G (P E i) (P E j) * off i j)) * D E j

/-- The two greatest scores' positions among the four. -/
def Q (k : Fin 2) : Fin 4 := so (SC E G) ⟨k.val, by have := k.isLt; omega⟩

theorem P_inj : Function.Injective (P E) := fun i j h => Fin.ext (by
  have := congrArg Fin.val (so_inj E h)
  exact this)

theorem Q_inj : Function.Injective (Q E G) := fun i j h => Fin.ext (by
  have := congrArg Fin.val (so_inj (SC E G) h)
  exact this)

theorem off_eq {k : ℕ} (i j : Fin k) : off i j = ((if i = j then 0 else 1 : ℝ) : EReal) := by
  unfold off
  split
  · rw [← EReal.coe_one, ← EReal.coe_sub, sub_self]
  · rw [sub_zero, EReal.coe_one]

variable (hE : ∀ x, Rl (E x)) (hE0 : ∀ x, 0 ≤ E x) (hG : ∀ x y, Rl (G x y))

include hE in
theorem mem_draft (x : Fin 64) : x ∈ tk E ∅ 4 ↔ ∃ i, P E i = x := by
  have hp : ∀ k (hk : k < 64), pick E ∅ k = so E ⟨k, hk⟩ := fun k hk => pick_eq_so E (fun x => (hE x).ne_bot) k hk
  rw [mem_tk]
  constructor
  · rintro (h | ⟨j, hj, rfl⟩)
    · exact absurd h (Finset.notMem_empty x)
    · exact ⟨⟨j, hj⟩, (hp j (by omega)).symm⟩
  · rintro ⟨i, rfl⟩
    exact Or.inr ⟨i.val, i.isLt, (hp i.val (by omega)).symm⟩

include hE in
theorem edE_P (i : Fin 4) : edE E (P E i) = D E i := if_pos ((mem_draft E hE _).mpr ⟨i, rfl⟩)

include hE in
/-- A sum weighted by the amplitudes runs over the four alone. -/
theorem sum_draft (h : Fin 64 → EReal) : ∑ x, edE E x * h x = ∑ i, D E i * h (P E i) := by
  classical
  have e : ∀ x, x ∉ Finset.univ.image (P E) → edE E x * h x = 0 := fun x hx => by
    have : edE E x = 0 := if_neg fun hm => hx (by
      obtain ⟨i, hi⟩ := (mem_draft E hE x).mp hm
      exact Finset.mem_image.mpr ⟨i, Finset.mem_univ _, hi⟩)
    rw [this, zero_mul]
  rw [← Finset.sum_subset (Finset.subset_univ (Finset.univ.image (P E))) (fun x _ hx => e x hx),
    Finset.sum_image fun i _ j _ hij => P_inj E hij]
  exact Finset.sum_congr rfl fun i _ => by rw [edE_P E hE]

include hE hE0 in
theorem D_rl (i : Fin 4) : Rl (D E i) := (hE _).sqrt (hE0 _)

/-- Taking the diagonal term out of a finite sum. -/
theorem sum_off {k : ℕ} (d : Fin k → EReal) (g : Fin k → EReal) (hd : ∀ i, Rl (d i)) (hg : ∀ i, Rl (g i)) (j : Fin k) :
    (∑ i, d i * g i) - d j * g j = ∑ i, d i * (g i * off i j) := by
  choose a ha using hd
  choose b hb using hg
  obtain rfl : d = fun i => (a i : EReal) := funext ha
  obtain rfl : g = fun i => (b i : EReal) := funext hb
  simp only [off_eq, ← EReal.coe_mul, ← coe_sum, ← EReal.coe_sub]
  refine congrArg _ ?_
  rw [sub_eq_iff_eq_add]
  have : a j * b j = ∑ i, if i = j then a i * b i else 0 := by rw [Finset.sum_ite_eq' Finset.univ j]; simp
  rw [this, ← Finset.sum_add_distrib]
  exact Finset.sum_congr rfl fun i _ => by split <;> simp

include hE hE0 hG in
/-- On the four, the two scores agree. -/
theorem corrE_P (j : Fin 4) : corrE E G (P E j) = SC E G j := by
  unfold corrE SC
  rw [sum_draft E hE fun p => G p (P E j), edE_P E hE,
    sum_off (fun i => D E i) (fun i => G (P E i) (P E j)) (D_rl E hE hE0) (fun i => hG _ _) j]

include hE hE0 hG in
theorem SC_rl (j : Fin 4) : Rl (SC E G j) := by
  refine (hE _).sub ((Rl.sum _ _ fun i => (D_rl E hE hE0 i).mul ((hG _ _).mul ?_)).mul (D_rl E hE hE0 j))
  rw [off_eq]
  exact Rl.coe _

/-- No choice between the scores is left open. -/
def Sharp : Prop := ∀ k : Fin 2, SC E G (so (SC E G) ⟨k.val + 1, by have := k.isLt; omega⟩) < SC E G (so (SC E G) ⟨k.val, by have := k.isLt; omega⟩)

variable (hS : Sharp E G)

include hE hE0 hG hS in
/-- The picks over all the lanes are the picks over the four. -/
theorem pick_final (k : Fin 2) : pick (corrE E G) (tk E ∅ 4)ᶜ k.val = P E (Q E G k) := by
  have hf : (fun i => corrE E G (P E i)) = SC E G := funext (corrE_P E G hE hE0 hG)
  have h := pick_eq_so_sub (corrE E G) (P E) (P_inj E) (tk E ∅ 4)ᶜ
    (fun x => by rw [Finset.mem_compl, not_not]; exact mem_draft E hE x)
    (fun i => by rw [corrE_P E G hE hE0 hG]; exact (SC_rl E G hE hE0 hG i).ne_bot) k.val (by have := k.isLt; omega)
    (fun j hj => by
      simp only [hf, corrE_P E G hE hE0 hG]
      exact hS ⟨j, by have := k.isLt; omega⟩)
  rw [h]
  simp only [hf]
  rfl

include hE hE0 hG hS in
theorem mem_fin (x : Fin 64) : x ∈ finE E G ↔ ∃ k, P E (Q E G k) = x := by
  have h0 := pick_final E G hE hE0 hG hS 0
  have h1 := pick_final E G hE hE0 hG hS 1
  unfold finE
  rw [Finset.mem_insert, Finset.mem_singleton]
  constructor
  · rintro (rfl | rfl)
    · exact ⟨0, h0.symm⟩
    · exact ⟨1, h1.symm⟩
  · rintro ⟨k, rfl⟩
    match k with
    | 0 => exact Or.inl h0.symm
    | 1 => exact Or.inr h1.symm

include hE hE0 hG hS in
theorem fmE_PQ (k : Fin 2) : fmE E G (P E (Q E G k)) = 1 := if_pos ((mem_fin E G hE hE0 hG hS _).mpr ⟨k, rfl⟩)

include hE hE0 hG hS in
/-- A sum over the lanes, of terms that are nought off the mask, runs over the two alone. -/
theorem sum_final (h : Fin 64 → EReal) (hz : ∀ x, fmE E G x = 0 → h x = 0) : ∑ x, h x = ∑ k, h (P E (Q E G k)) := by
  classical
  have e : ∀ x, x ∉ Finset.univ.image (fun k => P E (Q E G k)) → h x = 0 := fun x hx => hz x (if_neg fun hm => hx (by
    obtain ⟨i, hi⟩ := (mem_fin E G hE hE0 hG hS x).mp hm
    exact Finset.mem_image.mpr ⟨i, Finset.mem_univ _, hi⟩))
  rw [← Finset.sum_subset (Finset.subset_univ (Finset.univ.image fun k => P E (Q E G k))) (fun x _ hx => e x hx),
    Finset.sum_image fun i _ j _ hij => Q_inj E G (P_inj E hij)]

include hE hE0 hG hS in
theorem edE_PQ (k : Fin 2) : edE E (P E (Q E G k)) * fmE E G (P E (Q E G k)) = D E (Q E G k) := by
  rw [fmE_PQ E G hE hE0 hG hS, mul_one, edE_P E hE]

include hE hE0 hG hS in
/-- The energy a row keeps. -/
theorem raw_row : ∑ x, E x * fmE E G x = ∑ k, D E (Q E G k) * D E (Q E G k) := by
  rw [sum_final E G hE hE0 hG hS (fun x => E x * fmE E G x) (fun x hx => by rw [hx, mul_zero])]
  exact Finset.sum_congr rfl fun k _ => by
    rw [fmE_PQ E G hE hE0 hG hS, mul_one]
    exact (sqrt_mul_self (hE _) (hE0 _)).symm

/-- The whole overlap of a row, and its diagonal. -/
def Tr : EReal := ∑ x, (∑ p, (edE E p * fmE E G p) * G p x) * (edE E x * fmE E G x)
def Ur : EReal := ∑ x, (edE E x * fmE E G x) * G x x * (edE E x * fmE E G x)

include hE hE0 hG hS in
theorem Tr_eq : Tr E G = ∑ l, (∑ k, D E (Q E G k) * G (P E (Q E G k)) (P E (Q E G l))) * D E (Q E G l) := by
  unfold Tr
  rw [sum_final E G hE hE0 hG hS _ (fun x hx => by rw [hx, mul_zero, mul_zero])]
  refine Finset.sum_congr rfl fun l _ => ?_
  rw [edE_PQ E G hE hE0 hG hS, sum_final E G hE hE0 hG hS _ (fun x hx => by rw [hx, mul_zero, zero_mul])]
  simp only [edE_PQ E G hE hE0 hG hS]

include hE hE0 hG hS in
theorem Ur_eq : Ur E G = ∑ l, D E (Q E G l) * G (P E (Q E G l)) (P E (Q E G l)) * D E (Q E G l) := by
  unfold Ur
  rw [sum_final E G hE hE0 hG hS _ (fun x hx => by rw [hx, mul_zero, mul_zero])]
  simp only [edE_PQ E G hE hE0 hG hS]

include hE hE0 hG hS in
theorem Tr_rl : Rl (Tr E G) := by
  rw [Tr_eq E G hE hE0 hG hS]
  exact Rl.sum _ _ fun l => (Rl.sum _ _ fun k => (D_rl E hE hE0 _).mul (hG _ _)).mul (D_rl E hE hE0 _)

include hE hE0 hG hS in
theorem Ur_rl : Rl (Ur E G) := by
  rw [Ur_eq E G hE hE0 hG hS]
  exact Rl.sum _ _ fun l => ((D_rl E hE hE0 _).mul (hG _ _)).mul (D_rl E hE hE0 _)

/-- A difference of products with one finite factor. -/
theorem sub_mul_rl {x y z : EReal} (hx : Rl x) (hy : Rl y) (hz : Rl z) : x * z - y * z = (x - y) * z := by
  obtain ⟨a, rfl⟩ := hx
  obtain ⟨b, rfl⟩ := hy
  obtain ⟨c, rfl⟩ := hz
  rw [← EReal.coe_mul, ← EReal.coe_mul, ← EReal.coe_sub, ← EReal.coe_sub, ← EReal.coe_mul, sub_mul]

include hE hE0 hG hS in
/-- The overlap a row keeps. -/
theorem ov_row : Tr E G - Ur E G
    = ∑ l, (∑ k, D E (Q E G k) * (G (P E (Q E G k)) (P E (Q E G l)) * off k l)) * D E (Q E G l) := by
  have hD := D_rl E hE hE0
  rw [Tr_eq E G hE hE0 hG hS, Ur_eq E G hE hE0 hG hS,
    sum_sub _ _ _ (fun l => (Rl.sum _ _ fun k => (hD _).mul (hG _ _)).mul (hD _)) (fun l => ((hD _).mul (hG _ _)).mul (hD _))]
  refine Finset.sum_congr rfl fun l _ => ?_
  rw [sub_mul_rl (Rl.sum _ _ fun k => (hD _).mul (hG _ _)) ((hD _).mul (hG _ _)) (hD _),
    sum_off (fun k => D E (Q E G k)) (fun k => G (P E (Q E G k)) (P E (Q E G l))) (fun k => hD _) (fun k => hG _ _) l]

end

end Cert.Choice

end
-- ==== Proof.Pre.lean ====
module

public import proofs.«01_k».proof.Proof.Choice
public import proofs.«01_k».proof.Proof.Gen.Pre_decided
public import Idealize.ShloMosaic.Lib.ReduceAll

@[expose] public section

set_option maxRecDepth 16384

noncomputable section

namespace Cert.PreRead

open Idealize.ShloMosaic Cert.Sel Cert.Spec
open Cert.ReferenceIdeal.Read Cert.ReferenceIdeal.Rows Cert.ReferenceIdeal.Take

open Cert.Pre_decided Cert.Pre_decided.Facts in
theorem fn_eq (x0 : T0) (x1 : T1) (x2 : T2) (x3 : T3) : Cert.Pre_decided.fn (F := Ideal) x0 x1 x2 x3
    = andi (andi
        (Host.reduce IntOp.andi (cmpf .olt (Host.absf (F := Ideal) (φ := .f32) x0) (broadcastInDim S1x2048x1024 ![] bcast_S_S1x2048x1024 (constant (F := Ideal) S_ .f32 0x7F800000#32)))
          (constantI S_ 1 1#1) reducesTo_S1x2048x1024_S_d0_1_2 h_S_)
        (Host.reduce IntOp.andi (cmpf (F := Ideal) (φ := .f32) .ogt
            (extractStridedSlice S2048x4 ![0, 0] (Host.topK S2048x5 1 (FloatOps.cmpfTotal (F := Ideal) (φ := .f32) .gt) (val_main_v8 (F := Ideal) x0 x1) sliceFits_S2048x64_S2048x5).1 slices_S2048x5_S2048x4_0_0)
            (extractStridedSlice S2048x4 ![0, 1] (Host.topK S2048x5 1 (FloatOps.cmpfTotal (F := Ideal) (φ := .f32) .gt) (val_main_v8 (F := Ideal) x0 x1) sliceFits_S2048x64_S2048x5).1 slices_S2048x5_S2048x4_0_1))
          (constantI S_ 1 1#1) reducesTo_S2048x4_S_d0_1 h_S_))
      (Host.reduce IntOp.andi (cmpf (F := Ideal) (φ := .f32) .ogt
            (extractStridedSlice S2048x2 ![0, 0] (Host.topK S2048x3 1 (FloatOps.cmpfTotal (F := Ideal) (φ := .f32) .gt) (val_main_v34 (F := Ideal) x0 x1) sliceFits_S2048x4_S2048x3).1 slices_S2048x3_S2048x2_0_0)
            (extractStridedSlice S2048x2 ![0, 1] (Host.topK S2048x3 1 (FloatOps.cmpfTotal (F := Ideal) (φ := .f32) .gt) (val_main_v34 (F := Ideal) x0 x1) sliceFits_S2048x4_S2048x3).1 slices_S2048x3_S2048x2_0_1))
          (constantI S_ 1 1#1) reducesTo_S2048x2_S_d0_1 h_S_) := rfl

theorem and_one : ∀ a b : BitVec 1, IntOp.andi a b = 1#1 → a = 1#1 ∧ b = 1#1 := by decide

theorem inf_eq : FloatOps.ofBits (F := Ideal) .f32 0x7F800000#32 = (⊤ : EReal) := by
  show Ideal.ofBits .f32 0x7F800000#32 = ⊤
  simp [Ideal.ofBits, Ideal.ieee]

/-- The start of a row's sorted values. -/
theorem cut_fst {N k l : ℕ} (x : (⟨2, ![N, k]⟩ : Shape).Idx → EReal) (o : ℕ) (h : (⟨2, ![N, k]⟩ : Shape).Slices ![0, o] ⟨2, ![N, l]⟩)
    (a : Fin N) (i : Fin l) (i' : Fin k) (hi : i'.val = o + i.val) :
    extractStridedSlice (⟨2, ![N, l]⟩ : Shape) ![0, o] x h (ix2 a i) = x (ix2 a i') := by
  unfold extractStridedSlice
  refine congrArg x (funext fun c => Fin.ext ?_)
  match c with
  | ⟨0, _⟩ => show 0 + a.val = a.val; omega
  | ⟨1, _⟩ => show o + i.val = i'.val; omega

theorem gt_one (x y : EReal) (h : FloatOps.cmpf (F := Ideal) (φ := .f32) .ogt x y = 1#1) : y < x := by
  by_contra hn
  have : FloatOps.cmpf (F := Ideal) (φ := .f32) .ogt x y = 0#1 := by
    show Ideal.cmp .ogt x y = 0#1
    unfold Ideal.cmp
    simp [hn]
  rw [this] at h
  exact absurd h (by decide)

theorem lt_one (x y : EReal) (h : FloatOps.cmpf (F := Ideal) (φ := .f32) .olt x y = 1#1) : x < y := by
  by_contra hn
  have : FloatOps.cmpf (F := Ideal) (φ := .f32) .olt x y = 0#1 := by
    show Ideal.cmp .olt x y = 0#1
    unfold Ideal.cmp
    simp [hn]
  rw [this] at h
  exact absurd h (by decide)

instance : Subsingleton Cert.Pre_decided.S_.Idx := ⟨fun a b => funext fun i => i.elim0⟩

/-- What the precondition gives: finite rows, and no choice between corrected scores left open. -/
theorem use (x0 : T0) (x1 : T1) (x2 : T2) (x3 : T3) (h : Cert.Pre_decided.fn (F := Ideal) x0 x1 x2 x3 = fun _ => 1#1) :
    (∀ i, Rl (x0 i)) ∧ ∀ n, Cert.Choice.Sharp (en x0 x1 n) (gg x1) := by
  rw [fn_eq] at h
  obtain ⟨hab, hc⟩ := and_one _ _ (congrFun h ix0)
  obtain ⟨ha, _⟩ := and_one _ _ hab
  constructor
  · intro i
    have e := lt_one _ _ (Host.reduce_andi_all _ _ _ _ _ ha i)
    have e' : max (x0 i) (-(x0 i)) < ⊤ := lt_of_lt_of_eq e inf_eq
    refine Rl.of_ne (fun ht => ?_) (fun hb => ?_)
    · rw [ht] at e'
      exact absurd e' (by simp)
    · rw [hb] at e'
      exact absurd e' (by simp)
  · intro n k
    have e := gt_one _ _ (Host.reduce_andi_all _ _ _ _ _ hc (ix2 n k))
    have hk := k.isLt
    rw [cut_fst _ 0 _ n k ⟨k.val, by omega⟩ (by simp), cut_fst _ 1 _ n k ⟨k.val + 1, by omega⟩ (by simp [Nat.add_comm])] at e
    have t : ∀ (i : Fin 3) (i' : Fin 4), i'.val = i.val → _ := fun i i' hi =>
      top_fst (k := 3) (val_main_v34 (F := Ideal) x0 x1) Cert.Pre_decided.Facts.sliceFits_S2048x4_S2048x3 n i i' hi
    have e2 := lt_of_eq_of_lt (t ⟨k.val + 1, by omega⟩ ⟨k.val + 1, by omega⟩ rfl).symm
      (lt_of_lt_of_eq e (t ⟨k.val, by omega⟩ ⟨k.val, by omega⟩ rfl))
    rw [v34_row, v34_apply, v34_apply] at e2
    exact e2

end Cert.PreRead

end
-- ==== Proof.Value.lean ====
module

public import proofs.«01_k».proof.Proof.KRead
public import proofs.«01_k».proof.Proof.KGrid
public import proofs.«01_k».proof.Proof.Pre

@[expose] public section

set_option maxRecDepth 16384

noncomputable section

namespace Cert.ValueEq

open Idealize.ShloMosaic Idealize.ShloMosaic.TcCoe Idealize.SL.Sem
open Cert.KernelIdeal Cert.KernelIdeal.Gen Cert.KernelIdeal.Grid Cert.KernelIdeal.Host0 Cert.KernelIdeal.Row Cert.Spec Cert.Choice
open Cert.ReferenceIdeal.Read Cert.ReferenceIdeal.Rows

variable (m : (ℓ : Loc nD τ sig) → Buf (Elt Ideal) ℓ) (c : Dev nD)
variable (h0 : ∀ i, Rl (a0 m c i)) (hS : ∀ n, Sharp (en (a0 m c) (a1 m c) n) (gg (a1 m c)))

include h0 hS in
theorem y_eq (n : Fin 2048) (d : Fin 1024) :
    yArr m c (ix2 n d) = val_main_v51 (F := Ideal) (a0 m c) (a1 m c) (a2 m c) (a3 m c) (ix3 0 n d) := by
  rw [Cert.KernelIdeal.Read.yArr_apply, v51_apply]
  refine congrArg (_ + ·) (Finset.sum_congr rfl fun b _ => ?_)
  rw [sum_final (en (a0 m c) (a1 m c) n) (gg (a1 m c)) (en_rl _ h0 n) (en_nonneg _ h0 n) (gg_rl _) (hS n) _
    (fun x hx => by rw [show Cert.KernelIdeal.Read.fm (a0 m c) (a1 m c) n x = 0 from hx, mul_zero, zero_mul])]
  refine Finset.sum_congr rfl fun k _ => ?_
  have e := fmE_PQ (en (a0 m c) (a1 m c) n) (gg (a1 m c)) (en_rl _ h0 n) (en_nonneg _ h0 n) (gg_rl _) (hS n) k
  rw [show Cert.KernelIdeal.Read.fm (a0 m c) (a1 m c) n _ = 1 from e, mul_one, mul_comm]
  rfl

include h0 hS in
theorem raw_eq (i : S_.Idx) : rawF m c (ix2 0 0) = val_main_v56 (F := Ideal) (a0 m c) (a1 m c) i := by
  rw [Cert.KernelIdeal.Read.rawF_apply, v56_apply]
  exact Finset.sum_congr rfl fun n _ =>
    raw_row (en (a0 m c) (a1 m c) n) (gg (a1 m c)) (en_rl _ h0 n) (en_nonneg _ h0 n) (gg_rl _) (hS n)

include h0 hS in
theorem ovB_eq (t : Fin 4) : Cert.KernelIdeal.Read.ovB (a0 m c) (a1 m c) t
    = ∑ n : Fin 512, (fun r => Tr (en (a0 m c) (a1 m c) r) (gg (a1 m c)) - Ur (en (a0 m c) (a1 m c) r) (gg (a1 m c))) (Cert.KernelIdeal.Read.gl t n) := by
  have h1 : ∀ n, Rl (Tr (en (a0 m c) (a1 m c) n) (gg (a1 m c))) := fun n =>
    Tr_rl _ _ (en_rl _ h0 n) (en_nonneg _ h0 n) (gg_rl _) (hS n)
  have h2 : ∀ n, Rl (Ur (en (a0 m c) (a1 m c) n) (gg (a1 m c))) := fun n =>
    Ur_rl _ _ (en_rl _ h0 n) (en_nonneg _ h0 n) (gg_rl _) (hS n)
  exact sum_sub Finset.univ (fun n => Tr (en (a0 m c) (a1 m c) (Cert.KernelIdeal.Read.gl t n)) (gg (a1 m c)))
    (fun n => Ur (en (a0 m c) (a1 m c) (Cert.KernelIdeal.Read.gl t n)) (gg (a1 m c))) (fun n => h1 _) (fun n => h2 _)

include h0 hS in
theorem ov_eq (i : S_.Idx) : ovF m c (ix2 0 0) = val_main_v70 (F := Ideal) (a0 m c) (a1 m c) i := by
  rw [Cert.KernelIdeal.Read.ovF_apply, v70_apply]
  simp only [ovB_eq m c h0 hS]
  rw [Cert.KernelIdeal.Read.sum_block (fun r => Tr (en (a0 m c) (a1 m c) r) (gg (a1 m c)) - Ur (en (a0 m c) (a1 m c) r) (gg (a1 m c)))]
  exact Finset.sum_congr rfl fun n _ =>
    ov_row (en (a0 m c) (a1 m c) n) (gg (a1 m c)) (en_rl _ h0 n) (en_nonneg _ h0 n) (gg_rl _) (hS n)

include h0 hS in
theorem raw_rl (i : S_.Idx) : Rl (val_main_v56 (F := Ideal) (a0 m c) (a1 m c) i) := by
  rw [v56_apply]
  have hD := fun n => D_rl (en (a0 m c) (a1 m c) n) (en_rl _ h0 n) (en_nonneg _ h0 n)
  exact Rl.sum _ _ fun n => Rl.sum _ _ fun k => (hD n _).mul (hD n _)

include h0 hS in
theorem ov_rl (i : S_.Idx) : Rl (val_main_v70 (F := Ideal) (a0 m c) (a1 m c) i) := by
  rw [← ov_eq m c h0 hS, Cert.KernelIdeal.Read.ovF_apply]
  simp only [ovB_eq m c h0 hS]
  exact Rl.sum _ _ fun t => Rl.sum _ _ fun n =>
    (Tr_rl _ _ (en_rl _ h0 _) (en_nonneg _ h0 _) (gg_rl _) (hS _)).sub (Ur_rl _ _ (en_rl _ h0 _) (en_nonneg _ h0 _) (gg_rl _) (hS _))

/-- The number of rows. -/
theorem rows_eq : Ideal.ofBits .f32 0x45000000#32 = ((2048 : ℝ) : EReal) := by
  simp [Ideal.ofBits, Ideal.ieee]
  rw [← EReal.coe_mul]
  norm_num

theorem div_rows {x y : EReal} (hx : Rl x) (hy : Rl y) :
    Ideal.div x (Ideal.ofBits .f32 0x45000000#32) - Ideal.div y (Ideal.ofBits .f32 0x45000000#32)
      = Ideal.div (x - y) (Ideal.ofBits .f32 0x45000000#32) := by
  rw [rows_eq, Ideal.div_coe (by norm_num), Ideal.div_coe (by norm_num), Ideal.div_coe (by norm_num)]
  exact sub_mul_rl hx hy (Rl.coe _)

theorem cell (x : Vec Ideal S1x1 .f32) (h) (i : S_.Idx) : shapeCast S_ x h i = x (ix2 0 0) :=
  congrArg x (funext fun a => by
    match a with
    | ⟨0, _⟩ => exact Subsingleton.elim (α := Fin 1) _ _
    | ⟨1, _⟩ => exact Subsingleton.elim (α := Fin 1) _ _)

include h0 hS in
theorem res0_eq : res0 m c = val_main_v51 (F := Ideal) (a0 m c) (a1 m c) (a2 m c) (a3 m c) := by
  funext i
  obtain ⟨z, n, d, rfl⟩ : ∃ (z : Fin 1) (n : Fin 2048) (d : Fin 1024), i = ix3 z n d := ⟨i 0, i 1, i 2, by
    funext a
    match a with
    | ⟨0, _⟩ => rfl
    | ⟨1, _⟩ => rfl
    | ⟨2, _⟩ => rfl⟩
  obtain rfl : z = 0 := Subsingleton.elim _ _
  rw [← y_eq m c h0 hS]
  pointwise [res0]

include h0 hS in
theorem res3_eq : res3 m c = val_main_v73 (F := Ideal) (a0 m c) (a1 m c) := by
  funext i
  show FloatOps.hostDivf (shapeCast S_ (rawF m c) _ i) _ = FloatOps.hostDivf (val_main_v56 (F := Ideal) (a0 m c) (a1 m c) i) _
  rw [cell, raw_eq m c h0 hS i]
  rfl

include h0 hS in
theorem res2_eq : res2 m c = val_main_v74 (F := Ideal) (a0 m c) (a1 m c) := by
  funext i
  show FloatOps.hostDivf (shapeCast S_ (ovF m c) _ i) _ = FloatOps.hostDivf (val_main_v70 (F := Ideal) (a0 m c) (a1 m c) i) _
  rw [cell, ov_eq m c h0 hS i]
  rfl

include h0 hS in
theorem res4_eq : res4 m c = val_main_v72 (F := Ideal) (a0 m c) (a1 m c) := by
  unfold res4
  rw [res3_eq m c h0 hS, res2_eq m c h0 hS]
  funext i
  exact div_rows (raw_rl m c h0 hS i) (ov_rl m c h0 hS i)

include h0 hS in
theorem res1_eq : res1 m c = val_main_v75 (F := Ideal) (a0 m c) (a1 m c) := by
  unfold res1
  rw [res4_eq m c h0 hS]
  rfl

end Cert.ValueEq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_decided
public import proofs.«01_k».proof.Proof.Value
public import Idealize.ShloMosaic.Adequacy
public import Idealize.ShloMosaic.Init

@[expose] public section

noncomputable section

namespace Cert.Proof

open Idealize.ShloMosaic Idealize.SL.Sem Cert.Kernel

theorem frame_r : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

theorem value : Cert.algebraic_KernelIdeal_ReferenceIdeal := by
  intro m g m' g' hp ha
  have hu := fun c => Cert.PreRead.use _ _ _ _ (hp c)
  refine ⟨Cert.KernelIdeal.Grid.res0 m, Cert.KernelIdeal.Grid.res1 m, Cert.KernelIdeal.Grid.res2 m,
    Cert.KernelIdeal.Grid.res3 m, Cert.KernelIdeal.Grid.res4 m, Cert.KernelIdeal.Grid.run m g, ?_⟩
  refine (θ_run Cert.ReferenceIdeal.defs _ _).mono (fun r h c => ?_) (Cert.ReferenceIdeal.Value.run (F := Ideal) m' g')
  obtain ⟨h51, h75, h74, h73, h72, hargs⟩ := h c
  obtain ⟨e0, e1, e2, e3⟩ := ha c
  obtain ⟨hx, hS⟩ := hu c
  refine ⟨h51.trans ?_, h75.trans ?_, h74.trans ?_, h73.trans ?_, h72.trans ?_, hargs⟩
  · rw [Cert.ReferenceIdeal.Read.val_main_v51_eq, Cert.ValueEq.res0_eq m c hx hS]
    exact congr (congr (congrArg₂ (Cert.ReferenceIdeal.Read.val_main_v51 (F := Ideal)) e0 e1) e2) e3
  · rw [Cert.ReferenceIdeal.Read.val_main_v75_eq, Cert.ValueEq.res1_eq m c hx hS]
    exact congrArg₂ (Cert.ReferenceIdeal.Read.val_main_v75 (F := Ideal)) e0 e1
  · rw [Cert.ReferenceIdeal.Read.val_main_v74_eq, Cert.ValueEq.res2_eq m c hx hS]
    exact congrArg₂ (Cert.ReferenceIdeal.Read.val_main_v74 (F := Ideal)) e0 e1
  · rw [Cert.ReferenceIdeal.Read.val_main_v73_eq, Cert.ValueEq.res3_eq m c hx hS]
    exact congrArg₂ (Cert.ReferenceIdeal.Read.val_main_v73 (F := Ideal)) e0 e1
  · rw [Cert.ReferenceIdeal.Read.val_main_v72_eq, Cert.ValueEq.res4_eq m c hx hS]
    exact congrArg₂ (Cert.ReferenceIdeal.Read.val_main_v72 (F := Ideal)) e0 e1

theorem claim : Cert.Claim :=
  ⟨Cert.Kernel.Gen.facts, Cert.KernelIdeal.Gen.facts, Cert.ReferenceIdeal.Gen.facts, Cert.Pre_decided.Gen.facts,
    fun m ρ _ => Cert.Kernel.Gen.frame m ρ, fun m ρ _ => Cert.Kernel.Gen.frame m ρ,
    fun m ρ _ => Cert.KernelIdeal.Gen.frame m ρ, frame_r, fun m ρ _ => frame_r m ρ trivial, trivial, value⟩

end Cert.Proof

end
